-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S256x4096 : Shape := ⟨2, ![256, 4096]⟩
abbrev S1024x2048 : Shape := ⟨2, ![1024, 2048]⟩
abbrev S_ : Shape := ⟨0, ![]⟩
abbrev S4096x512 : Shape := ⟨2, ![4096, 512]⟩
abbrev S3x1024x512 : Shape := ⟨3, ![3, 1024, 512]⟩
abbrev S4x1024x512 : Shape := ⟨3, ![4, 1024, 512]⟩
abbrev S3 : Shape := ⟨1, ![3]⟩
abbrev S4 : Shape := ⟨1, ![4]⟩
abbrev S1024x512 : Shape := ⟨2, ![1024, 512]⟩
abbrev S1x1024x512 : Shape := ⟨3, ![1, 1024, 512]⟩

abbrev nBuf : Space → Nat
  | .hbm => 13
  | .vmem => 14
  | .smem => 3
  | _ => 0

abbrev bufTy : (tb : Table) → Fin (tcTables nBuf tb) → BufTy
  | .hbm, ⟨0, _⟩ => ⟨S1024x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S1024x4096, .fp8e4m3⟩
  | .hbm, ⟨5, _⟩ => ⟨S4096x2048, .fp8e5m2⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096x512, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S256x4096, .fp8e4m3⟩
  | .local _ .vmem, ⟨3, _⟩ => ⟨S256x4096, .fp8e4m3⟩
  | .local _ .vmem, ⟨4, _⟩ => ⟨S1024x2048, .fp8e5m2⟩
  | .local _ .vmem, ⟨5, _⟩ => ⟨S1024x2048, .fp8e5m2⟩
  | .local _ .vmem, ⟨6, _⟩ => ⟨S1024x2048, .fp8e5m2⟩
  | .local _ .vmem, ⟨7, _⟩ => ⟨S1024x2048, .fp8e5m2⟩
  | .local _ .vmem, ⟨8, _⟩ => ⟨S1024x4096, .fp8e4m3⟩
  | .local _ .vmem, ⟨9, _⟩ => ⟨S4096x512, .fp8e5m2⟩
  | .local _ .vmem, ⟨10, _⟩ => ⟨S4096x512, .fp8e5m2⟩
  | .local _ .vmem, ⟨11, _⟩ => ⟨S4096x512, .f32⟩
  | .local _ .vmem, ⟨12, _⟩ => ⟨S3x1024x512, .bf16⟩
  | .local _ .vmem, ⟨13, _⟩ => ⟨S4x1024x512, .bf16⟩
  | .local _ .smem, ⟨0, _⟩ => ⟨S1, .i32⟩
  | .local _ .smem, ⟨1, _⟩ => ⟨S1, .f32⟩
  | .local _ .smem, ⟨2, _⟩ => ⟨S1, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | .smem, ⟨2, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v8 : Ref sig .tc := ⟨.hbm, 12, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg4_0 : Ref sig .tc := ⟨.vmem, 11, rfl⟩
abbrev cc2_scratch0 : Ref sig .tc := ⟨.vmem, 12, rfl⟩
abbrev cc2_scratch1 : Ref sig .tc := ⟨.vmem, 13, rfl⟩
abbrev cc2_stg2_0 : Ref sig .tc := ⟨.smem, 1, rfl⟩
abbrev cc2_stg3_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem3_0 : DmaSem sig := 12
abbrev cc2_sem4_0 : DmaSem sig := 13
abbrev barrier0 : Sem sig := 0

abbrev nD : Nat := 4
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2048 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

abbrev pre2 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k2_cond1 (i : grid2.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_3 : BitVec 32 := 0#32
  let v11 : BitVec 1 := Scalar.cmpi .ne v10 c0_i32_3
  v11

def k2_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v34 : BitVec 32 := Scalar.addi v2 c1_i32_15
  let c4_i32_16 : BitVec 32 := 4#32
  let v35 : BitVec 32 := Scalar.remsi v34 c4_i32_16
  let c1_i32_18 : BitVec 32 := 1#32
  let v36 : BitVec 32 := Scalar.muli v35 c1_i32_18
  let v37 : BitVec 32 := Scalar.addi c0_i32_19 v36
  v37.toNat
def k2_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v38 : BitVec 32 := Scalar.addi v2 c2_i32_20
  let c4_i32_21 : BitVec 32 := 4#32
  let v39 : BitVec 32 := Scalar.remsi v38 c4_i32_21
  let c1_i32_23 : BitVec 32 := 1#32
  let v40 : BitVec 32 := Scalar.muli v39 c1_i32_23
  let v41 : BitVec 32 := Scalar.addi c0_i32_24 v40
  v41.toNat
def k2_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_25 : BitVec 32 := 3#32
  let v42 : BitVec 32 := Scalar.addi v2 c3_i32_25
  let c4_i32_26 : BitVec 32 := 4#32
  let v43 : BitVec 32 := Scalar.remsi v42 c4_i32_26
  let c1_i32_28 : BitVec 32 := 1#32
  let v44 : BitVec 32 := Scalar.muli v43 c1_i32_28
  let v45 : BitVec 32 := Scalar.addi c0_i32_29 v44
  v45.toNat
def k2_cond2 (i : grid2.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_9 : BitVec 32 := 0#32
  let v23 : BitVec 1 := Scalar.cmpi .ne v22 c0_i32_9
  v23

def k2_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v33 : BitVec 32 := Scalar.muli v2 c1024_i32
  let v34 : Index := Scalar.indexCast v33
  let c0_15 : Index := 0#32
  ![v34.toNat, 0]
def k2_cond3 (i : grid2.Coords) : BitVec 1 :=
  let arg0 : BitVec 32 := BitVec.ofNat 32 (i 0).val
  let c3_i32_10 : BitVec 32 := 3#32
  let v24 : BitVec 1 := Scalar.cmpi .slt arg0 c3_i32_10
  let v25 : BitVec 32 := Scalar.extui v24
  let c0_i32_11 : BitVec 32 := 0#32
  let v26 : BitVec 1 := Scalar.cmpi .ne v25 c0_i32_11
  v26

def k2_off2 (i : grid2.Coords) : Fin 3 → Nat :=
  let arg0 : BitVec 32 := BitVec.ofNat 32 (i 0).val
  let v34 : Index := Scalar.indexCast arg0
  let c0_15 : Index := 0#32
  let c0_16 : Index := 0#32
  ![v34.toNat, 0, 0]
def k2_off3 (i : grid2.Coords) : Fin 1 → Nat :=
  let arg0 : BitVec 32 := BitVec.ofNat 32 (i 0).val
  ![arg0.toNat]
def k2_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k2_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let c0_i32_20 : BitVec 32 := 0#32
  ![v2.toNat, 0, 0]
def k2_off6 (i : grid2.Coords) : Fin 3 → Nat :=
  let arg0 : BitVec 32 := BitVec.ofNat 32 (i 0).val
  let c0_i32_21 : BitVec 32 := 0#32
  let c0_i32_22 : BitVec 32 := 0#32
  ![arg0.toNat, 0, 0]
def k2_dev4 (i : grid2.Coords) (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let arg0 : BitVec 32 := BitVec.ofNat 32 (i 0).val
  let v4 : BitVec 32 := Scalar.addi v3 arg0
  let c4_i32_1 : BitVec 32 := 4#32
  let v5 : BitVec 32 := Scalar.remsi v4 c4_i32_1
  let c1_i32_17 : BitVec 32 := 1#32
  let v38 : BitVec 32 := Scalar.muli v5 c1_i32_17
  let v39 : BitVec 32 := Scalar.addi c0_i32_18 v38
  v39.toNat
def k2_cond4 (i : grid2.Coords) : BitVec 1 :=
  let arg0 : BitVec 32 := BitVec.ofNat 32 (i 0).val
  let c2_i32 : BitVec 32 := 2#32
  let v27 : BitVec 1 := Scalar.cmpi .eq arg0 c2_i32
  let v28 : BitVec 32 := Scalar.extui v27
  let c0_i32_12 : BitVec 32 := 0#32
  let v29 : BitVec 1 := Scalar.cmpi .ne v28 c0_i32_12
  v29

def k2_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let c1_i32_16 : BitVec 32 := 1#32
  let v34 : BitVec 32 := Scalar.subi v33 c1_i32_16
  let c4_i32_17 : BitVec 32 := 4#32
  let v35 : BitVec 32 := Scalar.remsi v34 c4_i32_17
  ![v35.toNat]
def k2_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let c1_i32_16 : BitVec 32 := 1#32
  let v34 : BitVec 32 := Scalar.subi v33 c1_i32_16
  let c4_i32_17 : BitVec 32 := 4#32
  let v35 : BitVec 32 := Scalar.remsi v34 c4_i32_17
  let c0_i32_23 : BitVec 32 := 0#32
  let c0_i32_24 : BitVec 32 := 0#32
  ![v35.toNat, 0, 0]
def k2_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let c1_i32_16 : BitVec 32 := 1#32
  let v34 : BitVec 32 := Scalar.subi v33 c1_i32_16
  let c4_i32_17 : BitVec 32 := 4#32
  let v35 : BitVec 32 := Scalar.remsi v34 c4_i32_17
  let v44 : Index := Scalar.indexCast v35
  let c0_27 : Index := 0#32
  let c0_28 : Index := 0#32
  ![v44.toNat, 0, 0]
def k2_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let c1_i32_16 : BitVec 32 := 1#32
  let v34 : BitVec 32 := Scalar.subi v33 c1_i32_16
  let c4_i32_17 : BitVec 32 := 4#32
  let v35 : BitVec 32 := Scalar.remsi v34 c4_i32_17
  let c1024_i32 : BitVec 32 := 1024#32
  let v48 : BitVec 32 := Scalar.muli v35 c1024_i32
  let v49 : Index := Scalar.indexCast v48
  let c0_29 : Index := 0#32
  ![v49.toNat, 0]
def k2_cond5 (i : grid2.Coords) : BitVec 1 :=
  let arg0 : BitVec 32 := BitVec.ofNat 32 (i 0).val
  let c3_i32_13 : BitVec 32 := 3#32
  let v30 : BitVec 1 := Scalar.cmpi .eq arg0 c3_i32_13
  let v31 : BitVec 32 := Scalar.extui v30
  let c0_i32_14 : BitVec 32 := 0#32
  let v32 : BitVec 1 := Scalar.cmpi .ne v31 c0_i32_14
  v32

def k2_off11 (d0 : Dev nD) (c2_i32_16 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let v34 : BitVec 32 := Scalar.subi v33 c2_i32_16
  let c4_i32_17 : BitVec 32 := 4#32
  let v35 : BitVec 32 := Scalar.remsi v34 c4_i32_17
  ![v35.toNat]
def k2_off12 (d0 : Dev nD) (c2_i32_16 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let v34 : BitVec 32 := Scalar.subi v33 c2_i32_16
  let c4_i32_17 : BitVec 32 := 4#32
  let v35 : BitVec 32 := Scalar.remsi v34 c4_i32_17
  let c0_i32_23 : BitVec 32 := 0#32
  let c0_i32_24 : BitVec 32 := 0#32
  ![v35.toNat, 0, 0]
def k2_off13 (d0 : Dev nD) (c2_i32_16 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let v34 : BitVec 32 := Scalar.subi v33 c2_i32_16
  let c4_i32_17 : BitVec 32 := 4#32
  let v35 : BitVec 32 := Scalar.remsi v34 c4_i32_17
  let v44 : Index := Scalar.indexCast v35
  let c0_27 : Index := 0#32
  let c0_28 : Index := 0#32
  ![v44.toNat, 0, 0]
def k2_off14 (d0 : Dev nD) (c2_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v33 : BitVec 32 := Scalar.addi v2 c4_i32_15
  let v34 : BitVec 32 := Scalar.subi v33 c2_i32_16
  let c4_i32_17 : BitVec 32 := 4#32
  let v35 : BitVec 32 := Scalar.remsi v34 c4_i32_17
  let c1024_i32 : BitVec 32 := 1024#32
  let v48 : BitVec 32 := Scalar.muli v35 c1024_i32
  let v49 : Index := Scalar.indexCast v48
  let c0_29 : Index := 0#32
  ![v49.toNat, 0]
def k2_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_52 : BitVec 32 := 0#32
  let c0_i32_53 : BitVec 32 := 0#32
  ![v2.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (inb_S1_S1_0 : ∀ a, (![0] : Fin 1 → Nat) a + S1.size a ≤ S1.size a) (numel1_S1 : S1.numel = 1) (pf : pre2.Contents (Elt F)) (i : grid2.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi v0 c1_i32
  let v2 : BitVec 32 := Scalar.addi v1 arg0
  let c4_i32 : BitVec 32 := 4#32
  let v3 : BitVec 32 := Scalar.remsi v2 c4_i32
  let c0_i32 : BitVec 32 := 0#32
  let c0_i32_0 : BitVec 32 := 0#32
  ![c0_i32.toNat, v3.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x4096 .fp8e4m3 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .smem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
  The exchange of the fused product kernel: which device sends to which, the semaphores it uses, and the rounds schedule that
  accounts for the entry handshake and for the three transfers each device sends and receives.

  Each of the four devices sends one block to every other device. The block sent at grid point `k` (0, 1, 2) goes to the device
  `k + 1` places further, and lands in the receiver's slot numbered by the SENDER. Before its first transfer a device signals the
  other three and waits for their three signals; a signal hands the receiver's slot over to the device it goes to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

/-- The exchange's rounds: one duty per distance. -/
abbrev URing : Type := URounds (GSem nD τ sig) (Fin 3)
abbrev UU : Type := UR sig nD τ × URing

local notation "𝕄" => MT nD τ sig Unit (Elt F) ℕ UU ℕ

abbrev EP : Emb (UR sig nD τ) (MT nD τ sig Unit (Elt F) ℕ UU ℕ) := embL
abbrev ER : Emb URing (MT nD τ sig Unit (Elt F) ℕ UU ℕ) := embR

abbrev 𝒱₀ : Variants := Variants.none

/-! ## Who sends to whom -/

set_option backward.proofsInPublic true in
/-- The device `k + 1` places further: where device `c` sends at grid point `k`. -/
def fwd (c : Dev nD) (k : Fin 3) : Dev nD := ⟨(c.val + k.val + 1) % 4, Nat.mod_lt _ (by decide)⟩
set_option backward.proofsInPublic true in
/-- The device `k + 1` places back: whose block of grid point `k` device `c` receives. -/
def bwd (c : Dev nD) (k : Fin 3) : Dev nD := ⟨(c.val + 3 - k.val) % 4, Nat.mod_lt _ (by decide)⟩

theorem bwd_fwd (c : Dev nD) (k : Fin 3) : bwd (fwd c k) k = c := by revert c k; decide
theorem fwd_bwd (c : Dev nD) (k : Fin 3) : fwd (bwd c k) k = c := by revert c k; decide
theorem bwd_rev (c : Dev nD) (k : Fin 3) : bwd c k.rev = fwd c k := by revert c k; decide
theorem fwd_rev (c : Dev nD) (k : Fin 3) : fwd c k.rev = bwd c k := by revert c k; decide
theorem bwd_ne (c : Dev nD) (k : Fin 3) : bwd c k ≠ c := by revert c k; decide
theorem bwd_inj (c : Dev nD) (k k' : Fin 3) (h : bwd c k = bwd c k') : k = k' := by revert c k k'; decide

/-! ## The slots of the two exchange buffers -/

theorem inb7 (k : Fin 3) : ∀ a, (![k.val, 0, 0] : Fin 3 → ℕ) a + S1x1024x512.size a ≤ S3x1024x512.size a := by
  revert k; decide
theorem inb8 (s : Fin 4) : ∀ a, (![s.val, 0, 0] : Fin 3 → ℕ) a + S1x1024x512.size a ≤ S4x1024x512.size a := by
  revert s; decide

abbrev sb : Memref sig .tc .vmem S3x1024x512 .bf16 := Memref.whole cc2_scratch0
abbrev rb : Memref sig .tc .vmem S4x1024x512 .bf16 := Memref.whole cc2_scratch1

/-- Slot `k` of the send buffer; slot `s` of the receive buffer. -/
abbrev slot7 (k : Fin 3) : Memref sig .tc .vmem S1x1024x512 .bf16 :=
  sb.slice (Rect.unit (s := S3x1024x512) ![k.val, 0, 0] S1x1024x512.size (inb7 k)) (fun _ => rfl)
abbrev slot8 (s : Fin 4) : Memref sig .tc .vmem S1x1024x512 .bf16 :=
  rb.slice (Rect.unit (s := S4x1024x512) ![s.val, 0, 0] S1x1024x512.size (inb8 s)) (fun _ => rfl)

/-- The same with the leading axis dropped, as the transfers name them. -/
abbrev sq7 (k : Fin 3) : Memref sig .tc .vmem S1024x512 .bf16 := (slot7 k).squeeze S1024x512 squeezes_S1x1024x512_S1024x512
abbrev sq8 (s : Fin 4) : Memref sig .tc .vmem S1024x512 .bf16 := (slot8 s).squeeze S1024x512 squeezes_S1x1024x512_S1024x512

/-- Device `c`'s slot held whole at contents `f` (of which only the slot's own elements matter). -/
abbrev pts7 (c : Dev nD) (k : Fin 3) (f : Buf (Elt F) ((slot7 k).view.loc (c : Thread nD τ))) : sProp 𝕄 :=
  (slot7 k).view.loc (c : Thread nD τ) ↦[(slot7 k).view.set]{fullShare} f
abbrev pts8 (c : Dev nD) (s : Fin 4) (f : Buf (Elt F) ((slot8 s).view.loc (c : Thread nD τ))) : sProp 𝕄 :=
  (slot8 s).view.loc (c : Thread nD τ) ↦[(slot8 s).view.set]{fullShare} f

omit [FloatOps F] in
/-- What a transfer from slot to slot leaves in the destination slot, read back: the source slot's contents. -/
theorem read_landed (k : Fin 3) (s : Fin 4) (fd : (slot8 s).view.ty.Contents (Elt F)) (fs : (slot7 k).view.ty.Contents (Elt F)) :
    (slot8 s).view.read (Elt F) ((sq8 s).view.write (Elt F) fd ((sq7 k).view.read (Elt F) fs) Finset.univ)
      = (slot7 k).view.read (Elt F) fs := by
  have h := View.read_write_univ (v := (sq8 s).view) fd ((sq7 k).view.read (Elt F) fs)
  funext x
  have e := congrFun h ((Shape.reshapeEquiv squeezes_S1x1024x512_S1024x512.numel_eq).symm x)
  have e8 : ∀ (g : (slot8 s).view.ty.Contents (Elt F)) y, (sq8 s).view.read (Elt F) g y
      = (slot8 s).view.read (Elt F) g (Shape.reshapeEquiv squeezes_S1x1024x512_S1024x512.numel_eq y) := fun g y => rfl
  have e7 : ∀ (g : (slot7 k).view.ty.Contents (Elt F)) y, (sq7 k).view.read (Elt F) g y
      = (slot7 k).view.read (Elt F) g (Shape.reshapeEquiv squeezes_S1x1024x512_S1024x512.numel_eq y) := fun g y => rfl
  rw [e8, e7, Equiv.apply_symm_apply] at e
  exact e

/-! ## The semaphores -/

abbrev barS : Sem sig := (SemArray.scalar (sig.barrier 0 rfl) : Sems sig S_).sem

theorem inbS3 (k : Fin 3) : ∀ a, (![k.val] : Fin 1 → ℕ) a + S1.size a ≤ S3.size a := by revert k; decide
theorem inbS4 (s : Fin 4) : ∀ a, (![s.val] : Fin 1 → ℕ) a + S1.size a ≤ S4.size a := by revert s; decide

/-- The send semaphore of grid point `k`; the receive semaphore of sender `s`. -/
def sndS (k : Fin 3) : DmaSem sig := ((cc2_scratch2.slice (Rect.unit (s := S3) ![k.val] S1.size (inbS3 k))).squeeze S_ squeezes_S1_S_).sem
def rcvS (s : Fin 4) : DmaSem sig := ((cc2_scratch3.slice (Rect.unit (s := S4) ![s.val] S1.size (inbS4 s))).squeeze S_ squeezes_S1_S_).sem

theorem sndS_val (k : Fin 3) : (sndS k).val = 14 + k.val := by revert k; decide
theorem rcvS_val (s : Fin 4) : (rcvS s).val = 17 + s.val := by revert s; decide

abbrev barCell (c : Dev nD) : GSem nD τ sig := ((c : Thread nD τ), .reg barS)
abbrev sndCell (c : Dev nD) (k : Fin 3) : GSem nD τ sig := ((c : Thread nD τ), .dma (sndS k))
/-- Where the block of grid point `k` completes on device `c`. -/
abbrev rcvCell (c : Dev nD) (k : Fin 3) : GSem nD τ sig := ((c : Thread nD τ), .dma (rcvS (bwd c k)))

/-- What a transfer of one block credits. -/
def N : ℕ := (sq8 0).view.dmaCredit
theorem N_pos : 0 < N := View.dmaCredit_pos _ (by decide)
theorem credit8 (s : Fin 4) : (sq8 s).view.dmaCredit = N := rfl
theorem credit7 (k : Fin 3) : (sq7 k).view.dmaCredit = N := rfl

/-- What part a semaphore of device `c` has in the exchange. -/
inductive Role where
  | bar | snd (k : Fin 3) | rcv (k : Fin 3) | out

def role (c : Dev nD) : SemLoc sig → Role
  | .reg s => if s = barS then .bar else .out
  | .dma s =>
    if s = sndS 0 then .snd 0 else if s = sndS 1 then .snd 1 else if s = sndS 2 then .snd 2
    else if s = rcvS (bwd c 0) then .rcv 0 else if s = rcvS (bwd c 1) then .rcv 1 else if s = rcvS (bwd c 2) then .rcv 2
    else .out

theorem sndS_inj (k k' : Fin 3) : sndS k = sndS k' ↔ k = k' := by revert k k'; decide
theorem rcvS_inj (s s' : Fin 4) : rcvS s = rcvS s' ↔ s = s' := by revert s s'; decide
theorem rcvS_ne_sndS (s : Fin 4) (k : Fin 3) : rcvS s ≠ sndS k := by revert s k; decide

theorem role_bar (c : Dev nD) : role c (.reg barS) = .bar := by unfold role; exact if_pos rfl
theorem role_snd (c : Dev nD) (k : Fin 3) : role c (.dma (sndS k)) = .snd k := by
  unfold role; fin_cases k <;> simp [sndS_inj]
theorem role_rcv (c : Dev nD) (k : Fin 3) : role c (.dma (rcvS (bwd c k))) = .rcv k := by
  unfold role
  have h : ∀ a b : Fin 3, bwd c a = bwd c b ↔ a = b := fun a b => ⟨bwd_inj c a b, fun h => h ▸ rfl⟩
  fin_cases k <;> simp [rcvS_ne_sndS, rcvS_inj, h]

/-! ## The schedule -/

/-- What device `d` sends at grid point `k`. -/
abbrev Sent (F : FTy → Type) : Type := Dev nD → Fin 3 → Vec F S1x1024x512 .bf16

variable (sent : Sent F)

/-- Duty `k` of device `c`'s barrier cell, paid by the device `k + 1` places back: that device's slot for `c`'s block, and that it
    stands at the start of the cell the block completes on. -/
def barPay (c : Dev nD) (k : Fin 3) : sProp 𝕄 :=
  iprop((∃ f, pts8 (bwd c k) c f) ∗ reached ER ((bwd c k : Thread nD τ), .dma (rcvS c)) 0)
/-- The block of grid point `k` landed on device `c`. -/
def rcvPay (c : Dev nD) (k : Fin 3) : sProp 𝕄 :=
  iprop(∃ f, pts8 c (bwd c k) f ∗ ⌜(slot8 (bwd c k)).view.read (Elt F) f = sent (bwd c k) k⌝)
/-- The send buffer's slot back. -/
def sndPay (c : Dev nD) (k : Fin 3) : sProp 𝕄 := iprop(∃ f, pts7 (F := F) c k f)

def exRd : Rounds.Schedule (GSem nD τ sig) (Fin 3) 𝕄 where
  duties g r := if r = 0 ∧ g.1.2 = .tc then (match role g.1.1 g.2 with | .bar => Finset.univ | .snd _ => {0} | .rcv _ => {0} | .out => ∅) else ∅
  unitless _ := False
  amount g _ _ := match role g.1.1 g.2 with | .bar => 1 | _ => N
  payload g _ d := match role g.1.1 g.2 with | .bar => barPay g.1.1 d | .snd k => sndPay g.1.1 k | .rcv k => rcvPay sent g.1.1 k | .out => iprop(emp)
  amount_pos g _ _ _ := by
    split
    · exact Nat.one_pos
    · exact N_pos

set_option synthInstance.maxHeartbeats 400000 in
instance exRd_payload_storable (g : GSem nD τ sig) (r : ℕ) (d : Fin 3) :
    BI.Storable (upEmb : UEmb _ 𝕄) ((exRd sent).payload g r d) := by
  dsimp only [exRd]
  unfold barPay rcvPay sndPay
  split <;> infer_instance

section Sched

variable (c : Dev nD) (k : Fin 3)

omit [FloatOps F]

theorem duties_bar : (exRd sent).duties (barCell c) 0 = Finset.univ := by
  dsimp only [exRd]; rw [if_pos ⟨rfl, rfl⟩, role_bar]
theorem duties_snd : (exRd sent).duties (sndCell c k) 0 = {0} := by
  dsimp only [exRd]; rw [if_pos ⟨rfl, rfl⟩, role_snd]
theorem duties_rcv : (exRd sent).duties (rcvCell c k) 0 = {0} := by
  dsimp only [exRd]; rw [if_pos ⟨rfl, rfl⟩, role_rcv]
theorem duties_later (g : GSem nD τ sig) : ∀ r, 1 ≤ r → (exRd sent).duties g r = ∅ :=
  fun r hr => by dsimp only [exRd]; exact if_neg fun h => by omega

theorem amount_bar (d : Fin 3) : (exRd sent).amount (barCell c) 0 d = 1 := by dsimp only [exRd]; rw [role_bar]
theorem amount_snd (d : Fin 3) : (exRd sent).amount (sndCell c k) 0 d = N := by dsimp only [exRd]; rw [role_snd]
theorem amount_rcv (d : Fin 3) : (exRd sent).amount (rcvCell c k) 0 d = N := by dsimp only [exRd]; rw [role_rcv]

theorem expect_bar : (exRd sent).expect (barCell c) 0 = 3 := by
  unfold Schedule.expect Schedule.amountOf; rw [duties_bar, Finset.sum_congr rfl fun d _ => amount_bar sent c d]; rfl
theorem expect_snd : (exRd sent).expect (sndCell c k) 0 = N := by
  unfold Schedule.expect Schedule.amountOf; rw [duties_snd, Finset.sum_singleton, amount_snd]
theorem expect_rcv : (exRd sent).expect (rcvCell c k) 0 = N := by
  unfold Schedule.expect Schedule.amountOf; rw [duties_rcv, Finset.sum_singleton, amount_rcv]

theorem payload_bar (d : Fin 3) : (exRd sent).payload (barCell c) 0 d = barPay c d := by dsimp only [exRd]; rw [role_bar]
theorem payload_snd (d : Fin 3) : (exRd sent).payload (sndCell c k) 0 d = sndPay c k := by dsimp only [exRd]; rw [role_snd]
theorem payload_rcv (d : Fin 3) : (exRd sent).payload (rcvCell c k) 0 d = rcvPay sent c k := by dsimp only [exRd]; rw [role_rcv]

theorem rest_bar : bigSep ((exRd sent).duties (barCell c) 0 \ ∅) (fun d => (exRd sent).payload (barCell c) 0 d)
    = iprop(barPay c 0 ∗ barPay c 1 ∗ barPay (F := F) c 2) := by
  rw [Finset.sdiff_empty, duties_bar, bigSep_congr fun d _ => payload_bar sent c d,
    bigSep_univ_eq_bigSepL [0, 1, 2] (by decide) (by decide)]
  rfl
theorem rest_snd : bigSep ((exRd sent).duties (sndCell c k) 0 \ ∅) (fun d => (exRd sent).payload (sndCell c k) 0 d) = sndPay (F := F) c k := by
  rw [Finset.sdiff_empty, duties_snd, bigSep_singleton, payload_snd]
theorem rest_rcv : bigSep ((exRd sent).duties (rcvCell c k) 0 \ ∅) (fun d => (exRd sent).payload (rcvCell c k) 0 d) = rcvPay sent c k := by
  rw [Finset.sdiff_empty, duties_rcv, bigSep_singleton, payload_rcv]

end Sched

/-! ## What each core owes; the levels -/

/-- What device `c` owes once it has signalled: the three blocks it sends, from the last on; -/
def T2 (c : Dev nD) : CellTallies nD τ sig Unit := tallyAt (rcvCell (fwd c 2) 2) () N
def T1 (c : Dev nD) : CellTallies nD τ sig Unit := T2 c + tallyAt (rcvCell (fwd c 1) 1) () N
def T0 (c : Dev nD) : CellTallies nD τ sig Unit := T1 c + tallyAt (rcvCell (fwd c 0) 0) () N
/-- and before, the three signals too. -/
def B2 (c : Dev nD) : CellTallies nD τ sig Unit := T0 c + tallyAt (barCell (fwd c 2)) () 1
def B1 (c : Dev nD) : CellTallies nD τ sig Unit := B2 c + tallyAt (barCell (fwd c 1)) () 1
def O₀ (c : Dev nD) : CellTallies nD τ sig Unit := B1 c + tallyAt (barCell (fwd c 0)) () 1

def L (g : GSem nD τ sig) : Finset Unit := if g.1.2 = .tc then {()} else ∅
/-- The barrier cells at 1, the receive cells at 2, the rest at 0. -/
def lv (g : GSem nD τ sig) (_ : Unit) : ℕ := match g.2 with | .reg _ => 1 | .dma s => if 17 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed is owed on a TensorCore's cell of level above `n`. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := by
  intro g u hg
  rcases Nat.add_pos_iff_pos_or_pos.mp (show 0 < O g u + O' g u from hg) with h1 | h1
  · exact h g u h1
  · exact h' g u h1
theorem Above.tally {n : ℕ} (c : Dev nD) (sm : SemLoc sig) (k : ℕ) (hn : n < lv ((c : Thread nD τ), sm) ()) :
    Above n (tallyAt ((c : Thread nD τ), sm) () k) := by
  intro g u hg
  rw [tallyAt_apply] at hg
  by_cases h : g = ((c : Thread nD τ), sm) ∧ u = ()
  · rw [h.1, L_tc]; exact ⟨Finset.mem_singleton_self _, hn⟩
  · rw [if_neg h] at hg; exact absurd hg (Nat.lt_irrefl 0)
theorem Above.mono {n n' : ℕ} (h : n' ≤ n) {O : CellTallies nD τ sig Unit} (hO : Above n O) : Above n' O :=
  fun g u hg => ⟨(hO g u hg).1, Nat.lt_of_le_of_lt h (hO g u hg).2⟩

theorem lv_rcv (c : Dev nD) (k : Fin 3) : lv (rcvCell c k) () = 2 := by
  dsimp only [lv]; rw [rcvS_val, if_pos (Nat.le_add_right _ _)]

theorem above_T2 (c : Dev nD) : Above 1 (T2 c) := Above.tally _ _ _ (by rw [lv_rcv]; decide)
theorem above_T1 (c : Dev nD) : Above 1 (T1 c) := (above_T2 c).add (Above.tally _ _ _ (by rw [lv_rcv]; decide))
theorem above_T0 (c : Dev nD) : Above 1 (T0 c) := (above_T1 c).add (Above.tally _ _ _ (by rw [lv_rcv]; decide))
theorem above_bar (c : Dev nD) : Above 0 (tallyAt (barCell c) () 1) := Above.tally _ _ _ (show 0 < 1 from Nat.one_pos)
theorem above_O₀ (c : Dev nD) : Above 0 (O₀ c) :=
  ((((above_T0 c).mono (Nat.zero_le _)).add (above_bar _)).add (above_bar _)).add
    (above_bar _)
theorem above_zero (n : ℕ) : Above n 0 := fun g u hg => absurd hg (Nat.lt_irrefl 0)

omit [FloatOps F] in
/-- A wait on a cell of level at most `n` is safe while everything owed is above `n`. -/
theorem mayWait_above (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.KernelIdealProof
-- ==== Proof.Steps.lean ====
/-
  One rule per effect of the fused product kernel's body, each stated over the offsets the program computes and an equation that
  names the slot, the semaphore or the rows they are: loads and stores of the operands, the result's row blocks and the exchange
  slots; the handshake's signals and wait; a transfer; the waits that end it on either side.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- The three transfers of a device, one by one. -/
theorem bigSep_fin3 (P : Fin 3 → sProp 𝕄) : bigSep Finset.univ P = iprop(P 0 ∗ P 1 ∗ P 2) :=
  bigSep_univ_eq_bigSepL ([0, 1, 2] : List (Fin 3)) (by decide) (by decide) P

omit [FloatOps F] in
/-- One conjunct of a family over everything. -/
theorem bigSep_at {ι : Type} [Fintype ι] [DecidableEq ι] (Φ : ι → sProp 𝕄) (i : ι) : (bigSep Finset.univ Φ : sProp 𝕄) ⊢ Φ i :=
  bigSep_elim (Finset.mem_univ i)

/-! ## Reading a block through a rectangle -/

/-- What a load of the rectangle `r` reads of contents `X`. -/
abbrev part {s : Shape} {α : Type} (r : Rect s) (X : s.Idx → α) : r.shape.Idx → α := fun y => X (r.emb y)

theorem part_zero1 {α : Type} {n : ℕ} (X : (⟨1, ![n]⟩ : Shape).Idx → α) (inb : ∀ a, (![0] : Fin 1 → ℕ) a + (⟨1, ![n]⟩ : Shape).size a ≤ (⟨1, ![n]⟩ : Shape).size a) :
    part (Rect.unit (s := ⟨1, ![n]⟩) ![0] (⟨1, ![n]⟩ : Shape).size inb) X = X := by
  funext y
  refine congrArg X (funext fun a => Fin.ext ?_)
  fin_cases a <;> simp [Rect.emb, Rect.unit]
theorem part_zero2 {α : Type} {n k : ℕ} (X : (⟨2, ![n, k]⟩ : Shape).Idx → α)
    (inb : ∀ a, (![0, 0] : Fin 2 → ℕ) a + (⟨2, ![n, k]⟩ : Shape).size a ≤ (⟨2, ![n, k]⟩ : Shape).size a) :
    part (Rect.unit (s := ⟨2, ![n, k]⟩) ![0, 0] (⟨2, ![n, k]⟩ : Shape).size inb) X = X := by
  funext y
  refine congrArg X (funext fun a => Fin.ext ?_)
  fin_cases a <;> simp [Rect.emb, Rect.unit]

/-- A load through a rectangle of a memref held at contents `X`. -/
theorem wp_ld (c : Dev nD) {cs : CoreSpace} {s : Shape} {e : EltTy} {m : Memref sig .tc cs s e} {r : Rect s} {hl : m.view.LoadsAt r.toLoadRect}
    {α : Type} {Q : α → sProp 𝕄} {k : (r.shape.Idx → Elt F e) → Prog (TpuEff nD τ sig (Elt F) Λ₀ .tc) α} (q : PosShare TreeShare) (X : s.Idx → Elt F e) :
    (owns (c : Thread nD τ) m q X : sProp 𝕄)
      ⊢ iprop((owns (c : Thread nD τ) m q X -∗ WP c (k (part r X)) Q) -∗ WP c (.op (.load m r.toLoadRect hl) k) Q) := by
  unfold owns
  iintro ⟨%f, %hf, H⟩ Hk
  subst hf
  iapply (wp_load_rect 𝒱₀ (c : Thread nD τ) none Set.univ (hl := hl) (k := k) (S := m.view.set) (q := q) (f := f) (View.set_slice_subset (v := m.view) r)) $$ [H]
  · iexact H
  iintro H
  iapply Hk
  iexists f
  isplitr
  · ipureintro; rfl
  iexact H

/-! ## The result's row blocks -/

theorem inbR (b : Fin 4) : ∀ a, (![1024 * b.val, 0] : Fin 2 → ℕ) a + S1024x512.size a ≤ S4096x512.size a := by
  revert b; decide

/-- The rows of block `b`. -/
abbrev rowR (b : Fin 4) : Rect S4096x512 := Rect.unit (s := S4096x512) ![1024 * b.val, 0] S1024x512.size (inbR b)
abbrev rowsOf (b : Fin 4) {α : Type} (X : S4096x512.Idx → α) : S1024x512.Idx → α := part (rowR b) X

theorem rowR_disjoint (b b' : Fin 4) (h : b' ≠ b) : Disjoint (rowR b').set (rowR b).set := by
  refine Rect.disjoint_of_separated _ _ (0 : Fin 2) ?_
  have h' : b'.val ≠ b.val := fun e => h (Fin.ext e)
  rcases Nat.lt_or_gt_of_ne h' with hlt | hlt
  · left; right; show 1024 * b'.val + 1 * (1024 - 1) < 1024 * b.val; omega
  · right; right; show 1024 * b.val + 1 * (1024 - 1) < 1024 * b'.val; omega

/-- A store of row block `b` of the result: the block's rows become `w`, the others stay. -/
theorem wp_st6 (c : Dev nD) {m : Memref sig .tc .vmem S4096x512 .f32} {o : Fin 2 → ℕ} (b : Fin 4) (ho : o = ![1024 * b.val, 0])
    {inb : ∀ a, o a + S1024x512.size a ≤ S4096x512.size a} {w : S1024x512.Idx → Elt F .f32}
    {hx : (m.access (Rect.unit (s := S4096x512) o S1024x512.size inb)).Stores Finset.univ}
    {hm : (Finset.univ : Finset (Rect.unit (s := S4096x512) o S1024x512.size inb).shape.Idx) = Finset.univ ∨ ∀ a, (Rect.unit (s := S4096x512) o S1024x512.size inb).stride a = 1}
    {α : Type} {Q : α → sProp 𝕄} {k : PUnit → Prog (TpuEff nD τ sig (Elt F) Λ₀ .tc) α} (X : S4096x512.Idx → Elt F .f32) :
    (owns (c : Thread nD τ) m fullShare X : sProp 𝕄)
      ⊢ iprop((∀ X' : S4096x512.Idx → Elt F .f32, ⌜rowsOf b X' = w ∧ ∀ b', b' ≠ b → rowsOf b' X' = rowsOf b' X⌝ -∗ owns (c : Thread nD τ) m fullShare X' -∗ WP c (k ⟨⟩) Q)
        -∗ WP c (.op (.store m (Rect.unit (s := S4096x512) o S1024x512.size inb) w Finset.univ hx hm) k) Q) := by
  subst ho
  unfold owns
  iintro ⟨%f, %hf, H⟩ Hk
  subst hf
  iapply (wp_store 𝒱₀ (c : Thread nD τ) none Set.univ (m := m) (r := rowR b) (w := w) (Mk := Finset.univ) (hx := hx) (hm := hm) (k := k) (S := m.view.set) (f := f)
      (View.set_slice_subset (v := m.view) (rowR b))) $$ [H]
  · iexact H
  iintro H
  ispecialize Hk $$ %(m.view.read (Elt F) ((m.access (rowR b)).write (Elt F) f w Finset.univ))
  iapply Hk
  · ipureintro
    refine ⟨View.read_write_univ (v := m.view.slice (rowR b)) f w, fun b' hb => ?_⟩
    refine View.read_slice_write_slice_of_disjoint (v := m.view) (rowR b') (rowR b) f w Finset.univ ?_
    show Disjoint (m.view.slice (rowR b')).set (m.view.slice (rowR b)).set
    rw [View.set_slice, View.set_slice]
    exact (Finset.disjoint_map _).mpr (rowR_disjoint b b' hb)
  iexists _
  isplitr
  · ipureintro; rfl
  iexact H

/-! ## The exchange slots -/

theorem wp_ld8 (c : Dev nD) {o : Fin 3 → ℕ} (s : Fin 4) (ho : o = ![s.val, 0, 0]) {inb : ∀ a, o a + S1x1024x512.size a ≤ S4x1024x512.size a}
    {hl : rb.view.LoadsAt (Rect.unit (s := S4x1024x512) o S1x1024x512.size inb).toLoadRect}
    {α : Type} {Q : α → sProp 𝕄} {k : Vec F S1x1024x512 .bf16 → Prog (TpuEff nD τ sig (Elt F) Λ₀ .tc) α} (f : Buf (Elt F) ((slot8 s).view.loc (c : Thread nD τ))) :
    (pts8 c s f : sProp 𝕄)
      ⊢ iprop((pts8 c s f -∗ WP c (k ((slot8 s).view.read (Elt F) f)) Q)
        -∗ WP c (.op (.load rb (Rect.unit (s := S4x1024x512) o S1x1024x512.size inb).toLoadRect hl) k) Q) := by
  subst ho
  exact wp_load_rect 𝒱₀ (c : Thread nD τ) none Set.univ (m := rb) (hl := hl) (k := k) (S := (slot8 s).view.set) (f := f) (Finset.Subset.refl _)

theorem wp_ld7 (c : Dev nD) {o : Fin 3 → ℕ} (s : Fin 3) (ho : o = ![s.val, 0, 0]) {inb : ∀ a, o a + S1x1024x512.size a ≤ S3x1024x512.size a}
    {hl : sb.view.LoadsAt (Rect.unit (s := S3x1024x512) o S1x1024x512.size inb).toLoadRect}
    {α : Type} {Q : α → sProp 𝕄} {k : Vec F S1x1024x512 .bf16 → Prog (TpuEff nD τ sig (Elt F) Λ₀ .tc) α} (f : Buf (Elt F) ((slot7 s).view.loc (c : Thread nD τ))) :
    (pts7 c s f : sProp 𝕄)
      ⊢ iprop((pts7 c s f -∗ WP c (k ((slot7 s).view.read (Elt F) f)) Q)
        -∗ WP c (.op (.load sb (Rect.unit (s := S3x1024x512) o S1x1024x512.size inb).toLoadRect hl) k) Q) := by
  subst ho
  exact wp_load_rect 𝒱₀ (c : Thread nD τ) none Set.univ (m := sb) (hl := hl) (k := k) (S := (slot7 s).view.set) (f := f) (Finset.Subset.refl _)

/-- A store of a whole send slot. -/
theorem wp_st7 (c : Dev nD) {o : Fin 3 → ℕ} (s : Fin 3) (ho : o = ![s.val, 0, 0]) {inb : ∀ a, o a + S1x1024x512.size a ≤ S3x1024x512.size a}
    {w : Vec F S1x1024x512 .bf16} {hx : (sb.access (Rect.unit (s := S3x1024x512) o S1x1024x512.size inb)).Stores Finset.univ}
    {hm : (Finset.univ : Finset (Rect.unit (s := S3x1024x512) o S1x1024x512.size inb).shape.Idx) = Finset.univ ∨ ∀ a, (Rect.unit (s := S3x1024x512) o S1x1024x512.size inb).stride a = 1}
    {α : Type} {Q : α → sProp 𝕄} {k : PUnit → Prog (TpuEff nD τ sig (Elt F) Λ₀ .tc) α} (f : Buf (Elt F) ((slot7 s).view.loc (c : Thread nD τ))) :
    (pts7 c s f : sProp 𝕄)
      ⊢ iprop((∀ f' : Buf (Elt F) ((slot7 s).view.loc (c : Thread nD τ)), ⌜(slot7 s).view.read (Elt F) f' = w⌝ -∗ pts7 c s f' -∗ WP c (k ⟨⟩) Q)
        -∗ WP c (.op (.store sb (Rect.unit (s := S3x1024x512) o S1x1024x512.size inb) w Finset.univ hx hm) k) Q) := by
  subst ho
  iintro H Hk
  iapply (wp_store 𝒱₀ (c : Thread nD τ) none Set.univ (m := sb) (r := Rect.unit (s := S3x1024x512) ![s.val, 0, 0] S1x1024x512.size (inb7 s)) (w := w) (Mk := Finset.univ)
      (hx := hx) (hm := hm) (k := k) (S := (slot7 s).view.set) (f := f) (Finset.Subset.refl _)) $$ [H]
  · iexact H
  iintro H
  ispecialize Hk $$ %((slot7 s).view.write (Elt F) f w Finset.univ)
  iapply Hk
  · ipureintro; exact View.read_write_univ (v := (slot7 s).view) f w
  iexact H

/-! ## The exchange's cells: their invariants -/

variable (sent : Sent F)

/-- The invariants of every cell of the exchange, under the names `κ`. -/
def Inv (κ : GSem nD τ sig → ℕ) : sProp 𝕄 :=
  bigSep Finset.univ fun c : Dev nD => iprop(cellInv ER (exRd sent) (κ (barCell c)) (barCell c)
    ∗ bigSep Finset.univ fun k : Fin 3 => iprop(cellInv ER (exRd sent) (κ (sndCell c k)) (sndCell c k) ∗ cellInv ER (exRd sent) (κ (rcvCell c k)) (rcvCell c k)))

instance Inv_persistent (κ : GSem nD τ sig → ℕ) : BI.Persistent (Inv sent κ) := by
  unfold Inv; infer_instance

omit [FloatOps F] in
theorem Inv_bar (κ : GSem nD τ sig → ℕ) (c : Dev nD) : Inv sent κ ⊢ cellInv ER (exRd sent) (κ (barCell c)) (barCell c) := by
  unfold Inv
  iintro H
  ihave H := (bigSep_at (fun c : Dev nD => iprop(cellInv ER (exRd sent) (κ (barCell c)) (barCell c)
    ∗ bigSep Finset.univ fun k : Fin 3 => iprop(cellInv ER (exRd sent) (κ (sndCell c k)) (sndCell c k) ∗ cellInv ER (exRd sent) (κ (rcvCell c k)) (rcvCell c k)))) c) $$ H
  icases H with ⟨H, -⟩
  iexact H
omit [FloatOps F] in
theorem Inv_pair (κ : GSem nD τ sig → ℕ) (c : Dev nD) (k : Fin 3) :
    Inv sent κ ⊢ iprop(cellInv ER (exRd sent) (κ (sndCell c k)) (sndCell c k) ∗ cellInv ER (exRd sent) (κ (rcvCell c k)) (rcvCell c k)) := by
  unfold Inv
  iintro H
  ihave H := (bigSep_at (fun c : Dev nD => iprop(cellInv ER (exRd sent) (κ (barCell c)) (barCell c)
    ∗ bigSep Finset.univ fun k : Fin 3 => iprop(cellInv ER (exRd sent) (κ (sndCell c k)) (sndCell c k) ∗ cellInv ER (exRd sent) (κ (rcvCell c k)) (rcvCell c k)))) c) $$ H
  icases H with ⟨-, H⟩
  ihave H := (bigSep_at (fun k : Fin 3 => iprop(cellInv ER (exRd sent) (κ (sndCell c k)) (sndCell c k) ∗ cellInv ER (exRd sent) (κ (rcvCell c k)) (rcvCell c k))) k) $$ H
  iexact H
omit [FloatOps F] in
theorem Inv_snd (κ : GSem nD τ sig → ℕ) (c : Dev nD) (k : Fin 3) : Inv sent κ ⊢ cellInv ER (exRd sent) (κ (sndCell c k)) (sndCell c k) := by
  iintro H
  ihave H := (Inv_pair sent κ c k) $$ H
  icases H with ⟨H, -⟩
  iexact H
omit [FloatOps F] in
theorem Inv_rcv (κ : GSem nD τ sig → ℕ) (c : Dev nD) (k : Fin 3) : Inv sent κ ⊢ cellInv ER (exRd sent) (κ (rcvCell c k)) (rcvCell c k) := by
  iintro H
  ihave H := (Inv_pair sent κ c k) $$ H
  icases H with ⟨-, H⟩
  iexact H

/-! ## The handshake -/

/-- Signal `k`: to the device `k + 1` places further, with this device's slot for that device's block. -/
theorem wp_sig (κ : GSem nD τ sig → ℕ) (c n : Dev nD) (k : Fin 3) (hn : n = fwd c k) {hk' : Nat}
    (hk1 : hk' = 1) (O O' : CellTallies nD τ sig Unit) (hO : O = O' + tallyAt (barCell (fwd c k)) () 1) (W : Waits sig Unit)
    {α : Type} {Q : α → sProp 𝕄} {K : PUnit → Prog (TpuEff nD τ sig (Elt F) Λ₀ .tc) α} :
    iprop(Inv sent κ ∗ owes (c : Thread nD τ) O W ∗ dutyTok ER (barCell (fwd c k)) 0 k ∗ (∃ f, pts8 (F := F) c (fwd c k) f)
        ∗ reached ER ((c : Thread nD τ), .dma (rcvS (fwd c k))) 0 ∗ reached ER (barCell (fwd c k)) 0)
      ⊢ iprop((owes (c : Thread nD τ) O' W -∗ WP c (K ⟨⟩) Q)
          -∗ WP c (.op (.semSignal (Dev.tc n : Thread nD τ) barS hk') K) Q) := by
  subst hn hk1
  iintro ⟨#HI, HO, Ht, Hp, #Hr, #Hb⟩
  ihave #HIb := (Inv_bar sent κ (fwd c k)) $$ HI
  iapply (Rounds.wp_signal 𝒱₀ ER (exRd sent) (c : Thread nD τ) none (dst := (fwd c k : Thread nD τ)) (κ := κ (barCell (fwd c k)))
      (by rw [duties_bar]; exact Finset.mem_univ _) (amount_bar sent (fwd c k) k) () O' hO)
  isplitr; · iexact HIb
  isplitl [HO]; · iexact HO
  isplitl [Ht]; · iexact Ht
  isplitl [Hp]
  · rw [payload_bar]; unfold barPay; rw [bwd_fwd]
    isplitl [Hp]; · iexact Hp
    iexact Hr
  iexact Hb

/-- The wait for the three signals, each bringing a peer's slot for this device's block. -/
theorem wp_bar (κ : GSem nD τ sig → ℕ) (c : Dev nD) {n : Nat} (hn : n = 3) (O : CellTallies nD τ sig Unit) (hO : Above 1 O) (W : Waits sig Unit)
    {α : Type} {Q : α → sProp 𝕄} {K : PUnit → Prog (TpuEff nD τ sig (Elt F) Λ₀ .tc) α} :
    iprop(Inv sent κ ∗ levAts L lv ∗ owes (c : Thread nD τ) O W ∗ cred (tallyAt (barCell c) () 3) ∗ atPos ER (barCell c) 0 ∅ 0)
      ⊢ iprop(((owes (c : Thread nD τ) O (insert (SemLoc.reg barS, ()) W) ∗ semVal (barCell c) 0
            ∗ bigSep Finset.univ fun k : Fin 3 => iprop((∃ f, pts8 (F := F) (fwd c k) c f) ∗ reached ER (rcvCell (fwd c k) k) 0)) -∗ WP c (K ⟨⟩) Q)
          -∗ WP c (.op (.semWait barS n) K) Q) := by
  subst hn
  iintro ⟨#HI, #Hlev, HO, Hc, Hat⟩ Hk
  ihave #HIb := (Inv_bar sent κ c) $$ HI
  iapply (Rounds.wp_wait_rest_token 𝒱₀ ER (exRd sent) (c : Thread nD τ) none (κ := κ (barCell c))
      (wpE_semWait_eq 𝒱₀ (c : Thread nD τ) none Set.univ) (Set.mem_univ _) () (O := O) (W := W) (R := 0) (m := 0) (T := ∅)
      (by rw [expect_bar])) $$ [Hc HO Hat]
  · isplitr; · iexact HIb
    isplitl [Hc]; · iexact Hc
    isplitl [HO]; · iexact HO
    isplitr; · iapply (mayWait_above c (.reg barS) 1 (by exact Nat.le_refl 1) O hO); iexact Hlev
    iexact Hat
  iintro ⟨HO, Hat, -, Hpay⟩
  ihave Hp := (Entails.of_eq (rest_bar sent c)) $$ Hpay
  imod (Rounds.cell_close ER (exRd sent) (κ := κ (barCell c)) (g := barCell c) (R := 0 + 1) (Set.mem_univ _) id (duties_later sent _)) $$ [Hat] with Hz
  · isplitr; · iexact HIb
    iexact Hat
  iapply Hk
  isplitl [HO]; · iexact HO
  isplitl [Hz]; · iexact Hz
  rw [bigSep_fin3]
  unfold barPay
  icases Hp with ⟨⟨Hp0, #Hr0⟩, ⟨Hp1, #Hr1⟩, ⟨Hp2, #Hr2⟩⟩
  have e0 : bwd c 0 = fwd c 2 := bwd_rev c 2
  have e1 : bwd c 1 = fwd c 1 := bwd_rev c 1
  have e2 : bwd c 2 = fwd c 0 := bwd_rev c 0
  rw [e0, e1, e2]
  unfold rcvCell
  rw [bwd_fwd, bwd_fwd, bwd_fwd]
  isplitl [Hp2]
  · isplitl [Hp2]; · iexact Hp2
    iexact Hr2
  isplitl [Hp1]
  · isplitl [Hp1]; · iexact Hp1
    iexact Hr1
  isplitl [Hp0]; · iexact Hp0
  iexact Hr0

/-! ## The transfers -/

omit [FloatOps F] in
theorem pts7_sq (c : Dev nD) (k : Fin 3) (f : Buf (Elt F) ((slot7 k).view.loc (c : Thread nD τ))) :
    (pts7 c k f : sProp 𝕄) = ((sq7 k).view.loc (c : Thread nD τ) ↦[(sq7 k).view.set]{fullShare} f) := by
  have hset : (sq7 k).view.set = (slot7 k).view.set := View.set_reshape _ _
  rw [hset]
omit [FloatOps F] in
theorem pts8_sq (c : Dev nD) (s : Fin 4) (f : Buf (Elt F) ((slot8 s).view.loc (c : Thread nD τ))) :
    (pts8 c s f : sProp 𝕄) = ((sq8 s).view.loc (c : Thread nD τ) ↦[(sq8 s).view.set]{fullShare} f) := by
  have hset : (sq8 s).view.set = (slot8 s).view.set := View.set_reshape _ _
  rw [hset]

omit [FloatOps F] in
theorem sent_pay (c : Dev nD) (k : Fin 3) (f : Buf (Elt F) ((slot7 k).view.loc (c : Thread nD τ))) :
    ((sq7 k).view.loc (c : Thread nD τ) ↦[(sq7 k).view.set]{fullShare} f : sProp 𝕄) ⊢ sndPay (F := F) c k := by
  rw [← pts7_sq]
  unfold sndPay
  iintro H
  iexists f
  iexact H

omit [FloatOps F] in
/-- What transfer `k` leaves in its destination slot is what the receiver's wait is promised. -/
theorem landed_pay (c : Dev nD) (k : Fin 3) (f : Buf (Elt F) ((slot7 k).view.loc (c : Thread nD τ))) (fd : Buf (Elt F) ((slot8 c).view.loc (fwd c k : Thread nD τ)))
    (hf : (slot7 k).view.read (Elt F) f = sent c k) :
    (((sq8 c).view.loc (fwd c k : Thread nD τ) ↦[(sq8 c).view.set]{fullShare} (sq8 c).view.write (Elt F) fd ((sq7 k).view.read (Elt F) f) Finset.univ : sProp 𝕄))
      ⊢ rcvPay sent (fwd c k) k := by
  unfold rcvPay
  rw [bwd_fwd]
  have hset : (sq8 c).view.set = (slot8 c).view.set := View.set_reshape _ _
  rw [hset]
  iintro H
  iexists _
  isplitl [H]; · iexact H
  ipureintro
  exact (read_landed k c fd f).trans hf

/-- Transfer `k`: this device's send slot `k` into its slot of the device `k + 1` places further. -/
theorem wp_snd (κ : GSem nD τ sig → ℕ) (c n : Dev nD) (k : Fin 3) (hn : n = fwd c k)
    {o9 : Fin 1 → ℕ} (h9 : o9 = ![k.val]) {b9 : ∀ a, o9 a + S1.size a ≤ S3.size a}
    {o10 : Fin 1 → ℕ} (h10 : o10 = ![c.val]) {b10 : ∀ a, o10 a + S1.size a ≤ S4.size a}
    {o8 : Fin 3 → ℕ} (h8 : o8 = ![c.val, 0, 0]) {b8 : ∀ a, o8 a + S1x1024x512.size a ≤ S4x1024x512.size a}
    {o7 : Fin 3 → ℕ} (h7 : o7 = ![k.val, 0, 0]) {b7 : ∀ a, o7 a + S1x1024x512.size a ≤ S3x1024x512.size a}
    {hsc hsrc hdst hsem}
    (O O' : CellTallies nD τ sig Unit) (hO : O = O' + tallyAt (rcvCell (fwd c k) k) () N) (W : Waits sig Unit)
    (f : Buf (Elt F) ((slot7 k).view.loc (c : Thread nD τ))) (hf : (slot7 k).view.read (Elt F) f = sent c k)
    {α : Type} {Q : α → sProp 𝕄} {K : PUnit → Prog (TpuEff nD τ sig (Elt F) Λ₀ .tc) α} :
    iprop(Inv sent κ ∗ pts7 c k f ∗ (∃ f, pts8 (F := F) (fwd c k) c f) ∗ owes (c : Thread nD τ) O W
        ∗ dutyTok ER (sndCell c k) 0 0 ∗ reached ER (sndCell c k) 0
        ∗ dutyTok ER (rcvCell (fwd c k) k) 0 0 ∗ reached ER (rcvCell (fwd c k) k) 0)
      ⊢ iprop(((cred (tallyAt (sndCell c k) () N) ∗ owes (c : Thread nD τ) O' W) -∗ WP c (K ⟨⟩) Q)
          -∗ WP c (.op (.enqueueDma ((sb.slice (Rect.unit (s := S3x1024x512) o7 S1x1024x512.size b7) (fun _ => rfl)).squeeze S1024x512 squeezes_S1x1024x512_S1024x512)
              (.remote (Dev.tc n : Thread nD τ) ((rb.slice (Rect.unit (s := S4x1024x512) o8 S1x1024x512.size b8) (fun _ => rfl)).squeeze S1024x512 squeezes_S1x1024x512_S1024x512)
                (.dma ((cc2_scratch2.slice (Rect.unit (s := S3) o9 S1.size b9)).squeeze S_ squeezes_S1_S_).sem) hsc)
              (.dma ((cc2_scratch3.slice (Rect.unit (s := S4) o10 S1.size b10)).squeeze S_ squeezes_S1_S_).sem) hsrc hdst hsem) K) Q) := by
  subst hn h9 h10 h8 h7
  have hcell : rcvCell (fwd c k) k = ((fwd c k : Thread nD τ), .dma (rcvS c)) := by unfold rcvCell; rw [bwd_fwd]
  have hpay : (exRd sent).payload ((fwd c k : Thread nD τ), .dma (rcvS c)) 0 0 = rcvPay sent (fwd c k) k := hcell ▸ payload_rcv sent (fwd c k) k 0
  iintro ⟨#HI, Hs, ⟨%fd, Hd⟩, HO, Ht1, #Hr1, Ht2, #Hr2⟩
  ihave #HIs := (Inv_snd sent κ c k) $$ HI
  ihave #HIr := (Inv_rcv sent κ (fwd c k) k) $$ HI
  rw [hcell]
  iapply (Rounds.wp_send_pointsTo 𝒱₀ ER (exRd sent) (c : Thread nD τ) none (c' := (fwd c k : Thread nD τ))
    (src := sq7 k) (dst := sq8 c) (sS := .dma (sndS k)) (sem := .dma (rcvS c)) (hsc := hsc) (hsrc := hsrc) (hdst := hdst) (hsem := hsem) (k := K)
    (κ₁ := κ (sndCell c k)) (κ₂ := κ (rcvCell (fwd c k) k)) (q := fullShare) (fs := f) (O₀ := O)
    (r₁ := 0) (r₂ := 0) (d₁ := 0) (d₂ := 0) (fd := fd)
    (by show (0 : Fin 3) ∈ (exRd sent).duties (sndCell c k) 0; rw [duties_snd]; exact Finset.mem_singleton_self _)
    (by rw [← hcell, duties_rcv]; exact Finset.mem_singleton_self _)
    () () N (credit8 c) (amount_snd sent c k 0) (by rw [← hcell]; exact amount_rcv sent (fwd c k) k 0) O' (by rw [hO, hcell]) (W := W)
    ((sent_pay c k f).trans (Entails.of_eq (payload_snd sent c k 0).symm))
    ((landed_pay sent c k f fd hf).trans (Entails.of_eq hpay.symm)))
  isplitr; · iexact HIs
  isplitr; · rw [hcell]; iexact HIr
  isplitl [Hs]; · iapply (Entails.of_eq (pts7_sq c k f)); iexact Hs
  isplitl [Hd]; · iapply (Entails.of_eq (pts8_sq (fwd c k) c fd)); iexact Hd
  isplitl [HO]; · iexact HO
  isplitl [Ht1]; · iexact Ht1
  isplitr; · iexact Hr1
  isplitl [Ht2]; · iexact Ht2
  iexact Hr2

/-- The wait for the block of grid point `k`: its slot holds what the sender's grid point computed, and its semaphore's cell is at
    zero. -/
theorem wp_rcv (κ : GSem nD τ sig → ℕ) (c : Dev nD) (k : Fin 3)
    {o10 : Fin 1 → ℕ} (h10 : o10 = ![(bwd c k).val]) {b10 : ∀ a, o10 a + S1.size a ≤ S4.size a}
    {o8 : Fin 3 → ℕ} {b8 : ∀ a, o8 a + S1x1024x512.size a ≤ S4x1024x512.size a} {cs : Space} {s' : Shape} {e' : EltTy} {src : Memref sig .tc cs s' e'} {hsrc hdst}
    (W : Waits sig Unit)
    {α : Type} {Q : α → sProp 𝕄} {K : PUnit → Prog (TpuEff nD τ sig (Elt F) Λ₀ .tc) α} :
    iprop(Inv sent κ ∗ cred (tallyAt (rcvCell c k) () N) ∗ owes (c : Thread nD τ) 0 W ∗ atPos ER (rcvCell c k) 0 ∅ 0)
      ⊢ iprop(((∃ W', owes (c : Thread nD τ) 0 W') -∗ semVal (rcvCell c k) 0
            -∗ (∀ f, ⌜(slot8 (bwd c k)).view.read (Elt F) f = sent (bwd c k) k⌝ -∗ pts8 c (bwd c k) f -∗ WP c (K ⟨⟩) Q))
          -∗ WP c (.op (.waitDma2 ((cc2_scratch3.slice (Rect.unit (s := S4) o10 S1.size b10)).squeeze S_ squeezes_S1_S_).sem src
              ((rb.slice (Rect.unit (s := S4x1024x512) o8 S1x1024x512.size b8) (fun _ => rfl)).squeeze S1024x512 squeezes_S1x1024x512_S1024x512) hsrc hdst) K) Q) := by
  subst h10
  iintro ⟨#HI, Hc, HO, Hat⟩ Hk
  ihave #HIr := (Inv_rcv sent κ c k) $$ HI
  iapply (Rounds.wp_wait_rest_token 𝒱₀ ER (exRd sent) (c : Thread nD τ) none (κ := κ (rcvCell c k)) (sm := .dma (rcvS (bwd c k)))
      (wpE_waitDma2_eq 𝒱₀ (c : Thread nD τ) none Set.univ) (Set.mem_univ _) () (O := 0) (W := W) (R := 0) (m := 0) (T := ∅)
      (by show 0 + N = (exRd sent).expect (rcvCell c k) 0; rw [expect_rcv, zero_add])) $$ [Hc HO Hat]
  · isplitr; · iexact HIr
    isplitl [Hc]; · iexact Hc
    isplitl [HO]; · iexact HO
    isplitr; · rw [MayWait_zero]; iempintro
    iexact Hat
  iintro ⟨HO, Hat, -, Hpay⟩
  ihave Hp := (Entails.of_eq (rest_rcv sent c k)) $$ Hpay
  imod (Rounds.cell_close ER (exRd sent) (κ := κ (rcvCell c k)) (g := rcvCell c k) (R := 0 + 1) (Set.mem_univ _) id (duties_later sent _)) $$ [Hat] with Hz
  · isplitr; · iexact HIr
    iexact Hat
  unfold rcvPay
  icases Hp with ⟨%f, Hp, %hf⟩
  ispecialize Hk $$ [HO]
  · iexists _; iexact HO
  ispecialize Hk $$ [Hz]
  · iexact Hz
  ispecialize Hk $$ %f
  iapply Hk
  · ipureintro; exact hf
  iexact Hp

/-- The wait that ends send `k`: its slot is back, at some contents, and its semaphore's cell at zero. -/
theorem wp_sdn (κ : GSem nD τ sig → ℕ) (c : Dev nD) (k : Fin 3)
    {o9 : Fin 1 → ℕ} (h9 : o9 = ![k.val]) {b9 : ∀ a, o9 a + S1.size a ≤ S3.size a}
    {o7 : Fin 3 → ℕ} {b7 : ∀ a, o7 a + S1x1024x512.size a ≤ S3x1024x512.size a} {cs : Space} {s' : Shape} {e' : EltTy} {src : Memref sig .tc cs s' e'} {hsrc hdst}
    (W : Waits sig Unit)
    {α : Type} {Q : α → sProp 𝕄} {K : PUnit → Prog (TpuEff nD τ sig (Elt F) Λ₀ .tc) α} :
    iprop(Inv sent κ ∗ cred (tallyAt (sndCell c k) () N) ∗ owes (c : Thread nD τ) 0 W ∗ atPos ER (sndCell c k) 0 ∅ 0)
      ⊢ iprop(((∃ W', owes (c : Thread nD τ) 0 W') -∗ semVal (sndCell c k) 0 -∗ (∃ f, pts7 (F := F) c k f) -∗ WP c (K ⟨⟩) Q)
          -∗ WP c (.op (.waitDma2 ((cc2_scratch2.slice (Rect.unit (s := S3) o9 S1.size b9)).squeeze S_ squeezes_S1_S_).sem src
              ((sb.slice (Rect.unit (s := S3x1024x512) o7 S1x1024x512.size b7) (fun _ => rfl)).squeeze S1024x512 squeezes_S1x1024x512_S1024x512) hsrc hdst) K) Q) := by
  subst h9
  iintro ⟨#HI, Hc, HO, Hat⟩ Hk
  ihave #HIr := (Inv_snd sent κ c k) $$ HI
  iapply (Rounds.wp_wait_rest_token 𝒱₀ ER (exRd sent) (c : Thread nD τ) none (κ := κ (sndCell c k)) (sm := .dma (sndS k))
      (wpE_waitDma2_eq 𝒱₀ (c : Thread nD τ) none Set.univ) (Set.mem_univ _) () (O := 0) (W := W) (R := 0) (m := 0) (T := ∅)
      (by show 0 + N = (exRd sent).expect (sndCell c k) 0; rw [expect_snd, zero_add])) $$ [Hc HO Hat]
  · isplitr; · iexact HIr
    isplitl [Hc]; · iexact Hc
    isplitl [HO]; · iexact HO
    isplitr; · rw [MayWait_zero]; iempintro
    iexact Hat
  iintro ⟨HO, Hat, -, Hpay⟩
  ihave Hp := (Entails.of_eq (rest_snd sent c k)) $$ Hpay
  imod (Rounds.cell_close ER (exRd sent) (κ := κ (sndCell c k)) (g := sndCell c k) (R := 0 + 1) (Set.mem_univ _) id (duties_later sent _)) $$ [Hat] with Hz
  · isplitr; · iexact HIr
    iexact Hat
  unfold sndPay
  ispecialize Hk $$ [HO]
  · iexists _; iexact HO
  ispecialize Hk $$ [Hz]
  · iexact Hz
  iapply Hk
  iexact Hp

end Cert.KernelIdealProof
-- ==== Proof.Casts.lean ====
/-
  The two calls that copy the operands: their proof data, their bodies' obligations, and what they leave.
-/
module

public import proofs.«01_k».proof.Proof.Steps
public import proofs.«01_k».proof.Proof.Gen.KernelIdeal.Points
public import Idealize.ShloMosaic.Lib.Pipeline.FrameBody
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

theorem cast_done (c : Dev nD) {α : Type} (a : α) (Q : α → sProp 𝕄) : Q a ⊢ WP c (.ret a) Q := by
  unfold WP
  rw [wp_ret]
  iintro H
  imodintro
  iexact H

/-- A store over a whole rank-two memref. -/
theorem wp_stw (c : Dev nD) {n k : ℕ} {e : EltTy} {m : Memref sig .tc .vmem ⟨2, ![n, k]⟩ e} {inb : ∀ a, (![0, 0] : Fin 2 → ℕ) a + (⟨2, ![n, k]⟩ : Shape).size a ≤ (⟨2, ![n, k]⟩ : Shape).size a}
    {w : (⟨2, ![n, k]⟩ : Shape).Idx → Elt F e}
    {hx : (m.access (Rect.unit (s := ⟨2, ![n, k]⟩) ![0, 0] (⟨2, ![n, k]⟩ : Shape).size inb)).Stores Finset.univ}
    {hm : (Finset.univ : Finset (Rect.unit (s := ⟨2, ![n, k]⟩) ![0, 0] (⟨2, ![n, k]⟩ : Shape).size inb).shape.Idx) = Finset.univ ∨ ∀ a, (Rect.unit (s := ⟨2, ![n, k]⟩) ![0, 0] (⟨2, ![n, k]⟩ : Shape).size inb).stride a = 1}
    {α : Type} {Q : α → sProp 𝕄} {kk : PUnit → Prog (TpuEff nD τ sig (Elt F) Λ₀ .tc) α} (X : (⟨2, ![n, k]⟩ : Shape).Idx → Elt F e) :
    (owns (c : Thread nD τ) m fullShare X : sProp 𝕄)
      ⊢ iprop((owns (c : Thread nD τ) m fullShare w -∗ WP c (kk ⟨⟩) Q)
        -∗ WP c (.op (.store m (Rect.unit (s := ⟨2, ![n, k]⟩) ![0, 0] (⟨2, ![n, k]⟩ : Shape).size inb) w Finset.univ hx hm) kk) Q) := by
  unfold owns
  iintro ⟨%f, %hf, H⟩ Hk
  subst hf
  iapply (wp_store 𝒱₀ (c : Thread nD τ) none Set.univ (m := m) (r := Rect.unit (s := ⟨2, ![n, k]⟩) ![0, 0] (⟨2, ![n, k]⟩ : Shape).size inb) (w := w) (Mk := Finset.univ) (hx := hx) (hm := hm) (k := kk) (S := m.view.set) (f := f)
      (View.set_slice_subset (v := m.view) _)) $$ [H]
  · iexact H
  iintro H
  iapply Hk
  iexists _
  isplitr
  · ipureintro
    exact (part_zero2 (m.view.read (Elt F) ((m.access (Rect.unit (s := ⟨2, ![n, k]⟩) ![0, 0] (⟨2, ![n, k]⟩ : Shape).size inb)).write (Elt F) f w Finset.univ)) inb).symm.trans
      (View.read_write_univ (v := m.view.slice (Rect.unit (s := ⟨2, ![n, k]⟩) ![0, 0] (⟨2, ![n, k]⟩ : Shape).size inb)) f w)
  iexact H

/-! ## Call 0 -/

theorem pay0 (v : Vec F S256x4096 .fp8e4m3) : k0_pay1 v = v := by
  unfold k0_pay1
  exact shapeCast_self _ _

/-- The body copies its operand's block. -/
theorem copy0 (c : Dev nD) (i : grid0.Coords) {m1 : Memref sig .tc .vmem S256x4096 .fp8e4m3} {h1 : m1.IsWhole} {m2 : Memref sig .tc .vmem S256x4096 .fp8e4m3} {h2 : m2.IsWhole}
    (X1 X2 : S256x4096.Idx → Elt F .fp8e4m3) (Q : PUnit → sProp 𝕄) :
    iprop(owns (c : Thread nD τ) m1 fullShare X1 ∗ owns (c : Thread nD τ) m2 fullShare X2)
      ⊢ iprop((owns (c : Thread nD τ) m1 fullShare X1 ∗ owns (c : Thread nD τ) m2 fullShare X1 -∗ Q ⟨⟩) -∗ WP c (cc0_body i m1 h1 m2 h2) Q) := by
  rw [cc0_body_eq_skeleton]
  unfold cc0_body_skel
  simp only [Prog.bind_lift]
  iintro ⟨H1, H2⟩ Hk
  iapply (wp_ld c fullShare X1) $$ [H1]
  · iexact H1
  iintro H1
  rw [show part (Rect.unit (s := S256x4096) ![0, 0] S256x4096.size inb_S256x4096_S256x4096_0_0) X1 = X1 from part_zero2 X1 _, pay0]
  iapply (wp_ld c fullShare X2) $$ [H2]
  · iexact H2
  iintro H2
  iapply (wp_stw c X2) $$ [H2]
  · iexact H2
  iintro H2
  iapply (cast_done c)
  iapply Hk
  isplitl [H1]; · iexact H1
  iexact H2

/-- The operand's block at point `t`, of the contents `V` at entry. -/
def inBlk0 (V : Dev nD → Valuation τ sig (Elt F)) (c : Dev nD) (t : Fin grid0.N) : S256x4096.Idx → Elt F .fp8e4m3 :=
  ((cfg0.win 0).blk t).view.read (Elt F) (V c (Pipeline.arrRef (fun w => (cfg0.win w).toWinSpec) 0))

/-- The proof data: the buffers in scope that no window stages are kept, and what the device owes. -/
def dat0 (V : Dev nD → Valuation τ sig (Elt F)) (c : Dev nD) : Dat τ (Elt F) Unit ℕ UU ℕ cfg0 c where
  A w := V c (Pipeline.arrRef (fun w => (cfg0.win w).toWinSpec) w)
  after
    | 0, t => inBlk0 V c t
    | 1, t => inBlk0 V c t
    | ⟨_ + 2, h⟩, _ => absurd h (Nat.not_lt.2 (Nat.le_add_left _ _))
  Φ _ := Pipeline.scopedRest spec0 c
  q _ := fullShare
  owed _ := O₀ c

section
variable (V : Dev nD → Valuation τ sig (Elt F))

theorem before0_0 (c : Dev nD) (t : Fin grid0.N) (d) : (dat0 V c).before 0 t d = inBlk0 V c t :=
  ((dat0 V c).before_in_eq_fetched 0 rfl (fun _ => rfl) (fun _ _ _ => rfl) (fun _ => rfl) t d).trans
    (((dat0 V c).fetched_of_clip_none 0 t (fun _ => rfl) d (inBlk0 V c t)).trans ((cfg0.win 0).fill_cut _ _))

theorem body0 (c : Dev nD) : BodyObligation (dat0 V c) defs₀ 𝒱₀ () Set.univ := fun t => by
  have hp := copy0 c (grid0.coords t) (m1 := (cfg0.win 0).stage (cfg0.slots t 0)) (h1 := hstage0_0 ((cfg0.slots t 0).cast nbuf0_0))
    (m2 := (cfg0.win 1).stage (cfg0.slots t 1)) (h2 := hstage0_1 ((cfg0.slots t 1).cast nbuf0_1)) (inBlk0 V c t)
  rw [bigSep_W0, bigSep_W0]
  have h : (iprop((dat0 V c).Φ t.castSucc ∗ (dat0 V c).owesAt () t.castSucc
        ∗ (∃ d, owns (c : Thread nD τ) ((cfg0.win 0).stage (cfg0.slots t 0)) fullShare ((dat0 V c).before 0 t d))
        ∗ ∃ d, owns (c : Thread nD τ) ((cfg0.win 1).stage (cfg0.slots t 1)) fullShare ((dat0 V c).before 1 t d)) : sProp 𝕄)
      ⊢ WP c (bodyAt0 (F := F) t) fun _ => iprop((dat0 V c).Φ t.succ ∗ (dat0 V c).owesAt () t.succ
        ∗ owns (c : Thread nD τ) ((cfg0.win 0).stage (cfg0.slots t 0)) fullShare (inBlk0 V c t)
        ∗ owns (c : Thread nD τ) ((cfg0.win 1).stage (cfg0.slots t 1)) fullShare (inBlk0 V c t)) := by
    iintro ⟨HΦ, HO, ⟨%d0, H0⟩, %d1, H1⟩
    rw [before0_0]
    iapply (hp ((dat0 V c).before 1 t d1) _) $$ [H0 H1]
    · isplitl [H0]; · iexact H0
      iexact H1
    iintro ⟨H0, H1⟩
    isplitl [HΦ]
    · rw [show (dat0 V c).Φ t.succ = (dat0 V c).Φ t.castSucc from rfl]; iexact HΦ
    isplitl [HO]; · iexact HO
    isplitl [H0]; · iexact H0
    iexact H1
  exact h

/-- The result holds the operand's contents. -/
theorem arr0 (c : Dev nD) : (dat0 V c).arrAt 1 cfg0.N = (V c (Pipeline.arrRef (fun w => (cfg0.win w).toWinSpec) 0) : Buf (Elt F) ((cfg0.win 1).arr.view.loc (c : Thread nD τ))) := by
  refine (dat0 V c).arrAt_eq_of_covers 1 _ (by decide +kernel) fun t hf y => ?_
  rfl

end

/-! ## Call 1 -/

theorem pay1 (v : Vec F S1024x2048 .fp8e5m2) : k1_pay1 v = v := by
  unfold k1_pay1
  exact shapeCast_self _ _

/-- The body copies its operand's block. -/
theorem copy1 (c : Dev nD) (i : grid1.Coords) {m1 : Memref sig .tc .vmem S1024x2048 .fp8e5m2} {h1 : m1.IsWhole} {m2 : Memref sig .tc .vmem S1024x2048 .fp8e5m2} {h2 : m2.IsWhole}
    (X1 X2 : S1024x2048.Idx → Elt F .fp8e5m2) (Q : PUnit → sProp 𝕄) :
    iprop(owns (c : Thread nD τ) m1 fullShare X1 ∗ owns (c : Thread nD τ) m2 fullShare X2)
      ⊢ iprop((owns (c : Thread nD τ) m1 fullShare X1 ∗ owns (c : Thread nD τ) m2 fullShare X1 -∗ Q ⟨⟩) -∗ WP c (cc1_body i m1 h1 m2 h2) Q) := by
  rw [cc1_body_eq_skeleton]
  unfold cc1_body_skel
  simp only [Prog.bind_lift]
  iintro ⟨H1, H2⟩ Hk
  iapply (wp_ld c fullShare X1) $$ [H1]
  · iexact H1
  iintro H1
  rw [show part (Rect.unit (s := S1024x2048) ![0, 0] S1024x2048.size inb_S1024x2048_S1024x2048_0_0) X1 = X1 from part_zero2 X1 _, pay1]
  iapply (wp_ld c fullShare X2) $$ [H2]
  · iexact H2
  iintro H2
  iapply (wp_stw c X2) $$ [H2]
  · iexact H2
  iintro H2
  iapply (cast_done c)
  iapply Hk
  isplitl [H1]; · iexact H1
  iexact H2

/-- The operand's block at point `t`, of the contents `V` at entry. -/
def inBlk1 (V : Dev nD → Valuation τ sig (Elt F)) (c : Dev nD) (t : Fin grid1.N) : S1024x2048.Idx → Elt F .fp8e5m2 :=
  ((cfg1.win 0).blk t).view.read (Elt F) (V c (Pipeline.arrRef (fun w => (cfg1.win w).toWinSpec) 0))

/-- The proof data: the buffers in scope that no window stages are kept, and what the device owes. -/
def dat1 (V : Dev nD → Valuation τ sig (Elt F)) (c : Dev nD) : Dat τ (Elt F) Unit ℕ UU ℕ cfg1 c where
  A w := V c (Pipeline.arrRef (fun w => (cfg1.win w).toWinSpec) w)
  after
    | 0, t => inBlk1 V c t
    | 1, t => inBlk1 V c t
    | ⟨_ + 2, h⟩, _ => absurd h (Nat.not_lt.2 (Nat.le_add_left _ _))
  Φ _ := Pipeline.scopedRest spec1 c
  q _ := fullShare
  owed _ := O₀ c

variable (V : Dev nD → Valuation τ sig (Elt F))

theorem before1_0 (c : Dev nD) (t : Fin grid1.N) (d) : (dat1 V c).before 0 t d = inBlk1 V c t :=
  ((dat1 V c).before_in_eq_fetched 0 rfl (fun _ => rfl) (fun _ _ _ => rfl) (fun _ => rfl) t d).trans
    (((dat1 V c).fetched_of_clip_none 0 t (fun _ => rfl) d (inBlk1 V c t)).trans ((cfg1.win 0).fill_cut _ _))

theorem body1 (c : Dev nD) : BodyObligation (dat1 V c) defs₀ 𝒱₀ () Set.univ := fun t => by
  have hp := copy1 c (grid1.coords t) (m1 := (cfg1.win 0).stage (cfg1.slots t 0)) (h1 := hstage1_0 ((cfg1.slots t 0).cast nbuf1_0))
    (m2 := (cfg1.win 1).stage (cfg1.slots t 1)) (h2 := hstage1_1 ((cfg1.slots t 1).cast nbuf1_1)) (inBlk1 V c t)
  rw [bigSep_W1, bigSep_W1]
  have h : (iprop((dat1 V c).Φ t.castSucc ∗ (dat1 V c).owesAt () t.castSucc
        ∗ (∃ d, owns (c : Thread nD τ) ((cfg1.win 0).stage (cfg1.slots t 0)) fullShare ((dat1 V c).before 0 t d))
        ∗ ∃ d, owns (c : Thread nD τ) ((cfg1.win 1).stage (cfg1.slots t 1)) fullShare ((dat1 V c).before 1 t d)) : sProp 𝕄)
      ⊢ WP c (bodyAt1 (F := F) t) fun _ => iprop((dat1 V c).Φ t.succ ∗ (dat1 V c).owesAt () t.succ
        ∗ owns (c : Thread nD τ) ((cfg1.win 0).stage (cfg1.slots t 0)) fullShare (inBlk1 V c t)
        ∗ owns (c : Thread nD τ) ((cfg1.win 1).stage (cfg1.slots t 1)) fullShare (inBlk1 V c t)) := by
    iintro ⟨HΦ, HO, ⟨%d0, H0⟩, %d1, H1⟩
    rw [before1_0]
    iapply (hp ((dat1 V c).before 1 t d1) _) $$ [H0 H1]
    · isplitl [H0]; · iexact H0
      iexact H1
    iintro ⟨H0, H1⟩
    isplitl [HΦ]
    · rw [show (dat1 V c).Φ t.succ = (dat1 V c).Φ t.castSucc from rfl]; iexact HΦ
    isplitl [HO]; · iexact HO
    isplitl [H0]; · iexact H0
    iexact H1
  exact h

/-- The result holds the operand's contents. -/
theorem arr1 (c : Dev nD) : (dat1 V c).arrAt 1 cfg1.N = (V c (Pipeline.arrRef (fun w => (cfg1.win w).toWinSpec) 0) : Buf (Elt F) ((cfg1.win 1).arr.view.loc (c : Thread nD τ))) := by
  refine (dat1 V c).arrAt_eq_of_covers 1 _ (by decide +kernel) fun t hf y => ?_
  rfl

end Cert.KernelIdealProof

end
-- ==== Proof.Body.lean ====
/-
  The fused product kernel's body at its four grid points, each from the tokens and slots it uses to those it returns.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sent : Sent F)

/-- The body at grid point `i`, its operands in the memrefs given. -/
abbrev body (i : grid2.Coords) (m1 : Memref sig .tc .smem S1 .i32) (h1 : m1.IsWhole) (m2 : Memref sig .tc .vmem S1024x4096 .fp8e4m3) (h2 : m2.IsWhole)
    (m3 : Memref sig .tc .vmem S4096x512 .fp8e5m2) (h3 : m3.IsWhole) (m4 : Memref sig .tc .smem S1 .f32) (h4 : m4.IsWhole)
    (m5 : Memref sig .tc .smem S1 .f32) (h5 : m5.IsWhole) (m6 : Memref sig .tc .vmem S4096x512 .f32) (h6 : m6.IsWhole) : Prog (TpuEff nD τ sig (Elt F) Λ₀ .tc) PUnit :=
  cc2_body i m1 h1 m2 h2 m3 h3 m4 h4 m5 h5 m6 h6 (Memref.whole cc2_scratch0) (Memref.isWhole_whole _) (Memref.whole cc2_scratch1) (Memref.isWhole_whole _)
    cc2_scratch2 cc2_scratch3

/-- The number a scale's block holds. -/
abbrev scal (X : S1.Idx → Elt F .f32) : Elt F .f32 := part (Rect.unit (s := S1) ![0] S1.size inb_S1_S1_0) X (Shape.Idx.first (by rw [show (Rect.unit (s := S1) ![0] S1.size inb_S1_S1_0).shape.numel = 1 from numel1_S1]; exact Nat.one_pos))

/-- The operands' windows, held for reading. -/
def reads (c : Dev nD) (m2 : Memref sig .tc .vmem S1024x4096 .fp8e4m3) (m3 : Memref sig .tc .vmem S4096x512 .fp8e5m2) (m4 m5 : Memref sig .tc .smem S1 .f32)
    (X2 : S1024x4096.Idx → Elt F .fp8e4m3) (X3 : S4096x512.Idx → Elt F .fp8e5m2) (X4 X5 : S1.Idx → Elt F .f32) : sProp 𝕄 :=
  iprop(owns (c : Thread nD τ) m2 fullShare X2 ∗ owns (c : Thread nD τ) m3 fullShare X3 ∗ owns (c : Thread nD τ) m4 fullShare X4 ∗ owns (c : Thread nD τ) m5 fullShare X5)

/-- A program that has returned. -/
theorem wp_done (c : Dev nD) {α : Type} (a : α) (Q : α → sProp 𝕄) : Q a ⊢ WP c (.ret a) Q := by
  unfold WP
  rw [wp_ret]
  iintro H
  imodintro
  iexact H

/-- What signal `k` needs: its duty, the receiver at its start, and the slot it gives away. -/
def hand (c : Dev nD) (k : Fin 3) : sProp 𝕄 :=
  iprop(dutyTok ER (barCell (fwd c k)) 0 k ∗ (∃ f, pts8 (F := F) c (fwd c k) f) ∗ reached ER ((c : Thread nD τ), .dma (rcvS (fwd c k))) 0 ∗ reached ER (barCell (fwd c k)) 0)
/-- What transfer `k` needs of this device; -/
def armed (c : Dev nD) (k : Fin 3) : sProp 𝕄 :=
  iprop(dutyTok ER (sndCell c k) 0 0 ∗ reached ER (sndCell c k) 0 ∗ dutyTok ER (rcvCell (fwd c k) k) 0 0 ∗ ∃ f, pts7 (F := F) c k f)
/-- and of its peer, got at the handshake. -/
def door (c : Dev nD) (k : Fin 3) : sProp 𝕄 := iprop((∃ f, pts8 (F := F) (fwd c k) c f) ∗ reached ER (rcvCell (fwd c k) k) 0)
/-- Transfer `k` is under way. -/
def flying (c : Dev nD) (k : Fin 3) : sProp 𝕄 := cred (tallyAt (sndCell c k) () N)
/-- What the wait for the block of grid point `k` needs. -/
def await (c : Dev nD) (k : Fin 3) : sProp 𝕄 := iprop(cred (tallyAt (rcvCell c k) () N) ∗ atPos ER (rcvCell c k) 0 ∅ 0)

variable (κ : GSem nD τ sig → ℕ) (c : Dev nD) (i : grid2.Coords) {m1 : Memref sig .tc .smem S1 .i32} {h1 : m1.IsWhole} {m2 : Memref sig .tc .vmem S1024x4096 .fp8e4m3} {h2 : m2.IsWhole}
    {m3 : Memref sig .tc .vmem S4096x512 .fp8e5m2} {h3 : m3.IsWhole} {m4 : Memref sig .tc .smem S1 .f32} {h4 : m4.IsWhole}
    {m5 : Memref sig .tc .smem S1 .f32} {h5 : m5.IsWhole} {m6 : Memref sig .tc .vmem S4096x512 .f32} {h6 : m6.IsWhole}
    (X2 : S1024x4096.Idx → Elt F .fp8e4m3) (X3 : S4096x512.Idx → Elt F .fp8e5m2) (X4 X5 : S1.Idx → Elt F .f32) (X6 : S4096x512.Idx → Elt F .f32)

theorem cond1_iff : ∀ i : grid2.Coords, k2_cond1 i = 1#1 ↔ (i 0).val = 0 := by decide +kernel
theorem cond2_iff : ∀ i : grid2.Coords, k2_cond2 i = 1#1 ↔ (i 0).val = 3 := by decide +kernel
theorem cond3_iff : ∀ i : grid2.Coords, k2_cond3 i = 1#1 ↔ (i 0).val < 3 := by decide +kernel
theorem cond4_iff : ∀ i : grid2.Coords, k2_cond4 i = 1#1 ↔ (i 0).val = 2 := by decide +kernel
theorem cond5_iff : ∀ i : grid2.Coords, k2_cond5 i = 1#1 ↔ (i 0).val = 3 := by decide +kernel

theorem dev1 (c : Dev nD) (h : k2_dev1 c < nD) : (⟨k2_dev1 c, h⟩ : Dev nD) = fwd c 0 := Fin.ext (by rw [show (⟨k2_dev1 c, h⟩ : Dev nD).val = _ from k2_dev1_eq c]; rfl)
theorem dev2 (c : Dev nD) (h : k2_dev2 c < nD) : (⟨k2_dev2 c, h⟩ : Dev nD) = fwd c 1 := Fin.ext (by rw [show (⟨k2_dev2 c, h⟩ : Dev nD).val = _ from k2_dev2_eq c]; rfl)
theorem dev3 (c : Dev nD) (h : k2_dev3 c < nD) : (⟨k2_dev3 c, h⟩ : Dev nD) = fwd c 2 := Fin.ext (by rw [show (⟨k2_dev3 c, h⟩ : Dev nD).val = _ from k2_dev3_eq c]; rfl)
theorem dev4 (i : grid2.Coords) (c : Dev nD) (k : Fin 3) (hi : (i 0).val = k.val) (h : k2_dev4 i c < nD) : (⟨k2_dev4 i c, h⟩ : Dev nD) = fwd c k :=
  Fin.ext (by rw [show (⟨k2_dev4 i c, h⟩ : Dev nD).val = _ from k2_dev4_eq i c, hi]; rfl)
theorem off2 (i : grid2.Coords) (k : Fin 3) (hi : (i 0).val = k.val) : k2_off2 i = ![k.val, 0, 0] := by rw [k2_off2_eq, hi]
theorem off3 (i : grid2.Coords) (k : Fin 3) (hi : (i 0).val = k.val) : k2_off3 i = ![k.val] := by rw [k2_off3_eq, hi]
theorem off6 (i : grid2.Coords) (k : Fin 3) (hi : (i 0).val = k.val) : k2_off6 i = ![k.val, 0, 0] := by rw [k2_off6_eq, hi]
theorem off7 : ∀ c : Dev nD, k2_off7 c = ![(bwd c 0).val] := by decide +kernel
theorem off9 : ∀ c : Dev nD, k2_off9 c = ![(bwd c 0).val, 0, 0] := by decide +kernel
theorem off10 : ∀ c : Dev nD, k2_off10 c = ![1024 * (bwd c 0).val, 0] := by decide +kernel
theorem off11_1 : ∀ c : Dev nD, k2_off11 c 2#32 = ![(bwd c 1).val] := by decide +kernel
theorem off11_2 : ∀ c : Dev nD, k2_off11 c 3#32 = ![(bwd c 2).val] := by decide +kernel
theorem off13_1 : ∀ c : Dev nD, k2_off13 c 2#32 = ![(bwd c 1).val, 0, 0] := by decide +kernel
theorem off13_2 : ∀ c : Dev nD, k2_off13 c 3#32 = ![(bwd c 2).val, 0, 0] := by decide +kernel
theorem off14_1 : ∀ c : Dev nD, k2_off14 c 2#32 = ![1024 * (bwd c 1).val, 0] := by decide +kernel
theorem off14_2 : ∀ c : Dev nD, k2_off14 c 3#32 = ![1024 * (bwd c 2).val, 0] := by decide +kernel

/-- Grid point 0: the handshake, and the block for the next device is computed and sent. -/
theorem point0 (hi : (i 0).val = 0) (hs : sent c 0 = k2_pay4 (scal X4) (scal X5) X2 X3) (W : Waits sig Unit) (Q : PUnit → sProp 𝕄) :
    iprop(Inv sent κ ∗ levAts L lv ∗ reads c m2 m3 m4 m5 X2 X3 X4 X5 ∗ owes (c : Thread nD τ) (O₀ c) W ∗ cred (tallyAt (barCell c) () 3) ∗ atPos ER (barCell c) 0 ∅ 0
        ∗ hand (F := F) c 0 ∗ hand (F := F) c 1 ∗ hand (F := F) c 2 ∗ armed (F := F) c 0)
      ⊢ iprop(((reads c m2 m3 m4 m5 X2 X3 X4 X5 ∗ (∃ W, owes (c : Thread nD τ) (T1 c) W) ∗ flying (F := F) c 0 ∗ semVal (barCell c) 0 ∗ door (F := F) c 1 ∗ door (F := F) c 2) -∗ Q ⟨⟩)
          -∗ WP c (body i m1 h1 m2 h2 m3 h3 m4 h4 m5 h5 m6 h6) Q) := by
  have c1 : k2_cond1 i = 1#1 := (cond1_iff i).2 (by omega)
  have c2 : ¬ k2_cond2 i = 1#1 := fun h => by have := (cond2_iff i).1 h; omega
  have c3 : k2_cond3 i = 1#1 := (cond3_iff i).2 (by omega)
  have c4 : ¬ k2_cond4 i = 1#1 := fun h => by have := (cond4_iff i).1 h; omega
  have c5 : ¬ k2_cond5 i = 1#1 := fun h => by have := (cond5_iff i).1 h; omega
  unfold body
  simp only [cc2_body_eq_skeleton]
  unfold cc2_body_skel
  simp only [k2_part2_eq_skeleton]
  unfold k2_part2_skel
  simp only [dif_pos c1, dif_neg c2, dif_pos c3, dif_neg c4, dif_neg c5, smemLoad, smemLoadElt, semSignalWord, semWaitWord, Prog.lift, Prog.bind_op, Prog.bind_ret, Prog.pure_eq_ret, wp_deviceId]
  iintro ⟨#HI, #Hlev, Hreads, HO, Hc, Hat, Hh0, Hh1, Hh2, Harm⟩ Hk
  unfold reads
  icases Hreads with ⟨H2, H3, H4, H5⟩
  iapply (wp_ld c (m := m4) fullShare X4) $$ [H4]
  · iexact H4
  iintro H4
  iapply (wp_ld c (m := m5) fullShare X5) $$ [H5]
  · iexact H5
  iintro H5
  unfold hand
  icases Hh0 with ⟨Ht, Hp, #Hra, #Hrb⟩
  iapply (wp_sig sent κ c _ 0 (dev1 c _) rfl (O₀ c) (B1 c) rfl W) $$ [HO Ht Hp]
  · isplitr; · iexact HI
    isplitl [HO]; · iexact HO
    isplitl [Ht]; · iexact Ht
    isplitl [Hp]; · iexact Hp
    isplitr; · iexact Hra
    iexact Hrb
  iclear Hra
  iclear Hrb
  iintro HO
  icases Hh1 with ⟨Ht, Hp, #Hra, #Hrb⟩
  iapply (wp_sig sent κ c _ 1 (dev2 c _) rfl (B1 c) (B2 c) rfl W) $$ [HO Ht Hp]
  · isplitr; · iexact HI
    isplitl [HO]; · iexact HO
    isplitl [Ht]; · iexact Ht
    isplitl [Hp]; · iexact Hp
    isplitr; · iexact Hra
    iexact Hrb
  iclear Hra
  iclear Hrb
  iintro HO
  icases Hh2 with ⟨Ht, Hp, #Hra, #Hrb⟩
  iapply (wp_sig sent κ c _ 2 (dev3 c _) rfl (B2 c) (T0 c) rfl W) $$ [HO Ht Hp]
  · isplitr; · iexact HI
    isplitl [HO]; · iexact HO
    isplitl [Ht]; · iexact Ht
    isplitl [Hp]; · iexact Hp
    isplitr; · iexact Hra
    iexact Hrb
  iclear Hra
  iclear Hrb
  iintro HO
  iapply (wp_bar sent κ c rfl (T0 c) (above_T0 c) W) $$ [HO Hc Hat]
  · isplitr; · iexact HI
    isplitr; · iexact Hlev
    isplitl [HO]; · iexact HO
    isplitl [Hc]; · iexact Hc
    iexact Hat
  rw [bigSep_fin3]
  iintro ⟨HO, Hz, Hdoor, Hd1, Hd2⟩
  iapply (wp_ld c (m := m2) fullShare X2) $$ [H2]
  · iexact H2
  iintro H2
  iapply (wp_ld c (m := m3) fullShare X3) $$ [H3]
  · iexact H3
  iintro H3
  unfold armed door
  icases Harm with ⟨Ht1, #Hr1, Ht2, ⟨%f7, H7⟩⟩
  icases Hdoor with ⟨Hd, #Hr2⟩
  iapply (wp_ld7 c 0 (off2 i 0 hi) f7) $$ [H7]
  · iexact H7
  iintro H7
  iapply (wp_st7 c 0 (off2 i 0 hi) f7) $$ [H7]
  · iexact H7
  iintro %g7 %hg H7
  iapply (wp_snd sent κ c _ 0 (dev4 i c 0 hi _) (off3 i 0 hi) (k2_off4_eq c) (k2_off5_eq c) (off6 i 0 hi) (T0 c) (T1 c) rfl _ g7
      (hg.trans (by rw [hs, part_zero2, part_zero2]))) $$ [H7 Hd HO Ht1 Ht2]
  · isplitr; · iexact HI
    isplitl [H7]; · iexact H7
    isplitl [Hd]; · iexact Hd
    isplitl [HO]; · iexact HO
    isplitl [Ht1]; · iexact Ht1
    isplitr; · iexact Hr1
    isplitl [Ht2]; · iexact Ht2
    iexact Hr2
  iintro ⟨Hfl, HO⟩
  iapply (wp_done c)
  iapply Hk
  isplitl [H2 H3 H4 H5]
  · isplitl [H2]; · iexact H2
    isplitl [H3]; · iexact H3
    isplitl [H4]; · iexact H4
    iexact H5
  isplitl [HO]; · iexists _; iexact HO
  isplitl [Hfl]; · unfold flying; iexact Hfl
  isplitl [Hz]; · iexact Hz
  isplitl [Hd1]; · iexact Hd1
  iexact Hd2

/-- Grid point 1: the block for the device two places further is computed and sent. -/
theorem point1 (hi : (i 0).val = 1) (hs : sent c 1 = k2_pay4 (scal X4) (scal X5) X2 X3) (W : Waits sig Unit) (Q : PUnit → sProp 𝕄) :
    iprop(Inv sent κ ∗ reads c m2 m3 m4 m5 X2 X3 X4 X5 ∗ owes (c : Thread nD τ) (T1 c) W ∗ armed (F := F) c 1 ∗ door (F := F) c 1)
      ⊢ iprop(((reads c m2 m3 m4 m5 X2 X3 X4 X5 ∗ (∃ W, owes (c : Thread nD τ) (T2 c) W) ∗ flying (F := F) c 1) -∗ Q ⟨⟩)
          -∗ WP c (body i m1 h1 m2 h2 m3 h3 m4 h4 m5 h5 m6 h6) Q) := by
  have c1 : ¬ k2_cond1 i = 1#1 := fun h => by have := (cond1_iff i).1 h; omega
  have c2 : ¬ k2_cond2 i = 1#1 := fun h => by have := (cond2_iff i).1 h; omega
  have c3 : k2_cond3 i = 1#1 := (cond3_iff i).2 (by omega)
  have c4 : ¬ k2_cond4 i = 1#1 := fun h => by have := (cond4_iff i).1 h; omega
  have c5 : ¬ k2_cond5 i = 1#1 := fun h => by have := (cond5_iff i).1 h; omega
  unfold body
  simp only [cc2_body_eq_skeleton]
  unfold cc2_body_skel
  simp only [k2_part2_eq_skeleton]
  unfold k2_part2_skel
  simp only [dif_neg c1, dif_neg c2, dif_pos c3, dif_neg c4, dif_neg c5, smemLoad, smemLoadElt, semSignalWord, semWaitWord, Prog.lift, Prog.bind_op, Prog.bind_ret, Prog.pure_eq_ret, wp_deviceId]
  iintro ⟨#HI, Hreads, HO, Harm, Hdoor⟩ Hk
  unfold reads
  icases Hreads with ⟨H2, H3, H4, H5⟩
  iapply (wp_ld c (m := m4) fullShare X4) $$ [H4]
  · iexact H4
  iintro H4
  iapply (wp_ld c (m := m5) fullShare X5) $$ [H5]
  · iexact H5
  iintro H5
  iapply (wp_ld c (m := m2) fullShare X2) $$ [H2]
  · iexact H2
  iintro H2
  iapply (wp_ld c (m := m3) fullShare X3) $$ [H3]
  · iexact H3
  iintro H3
  unfold armed door
  icases Harm with ⟨Ht1, #Hr1, Ht2, ⟨%f7, H7⟩⟩
  icases Hdoor with ⟨Hd, #Hr2⟩
  iapply (wp_ld7 c 1 (off2 i 1 hi) f7) $$ [H7]
  · iexact H7
  iintro H7
  iapply (wp_st7 c 1 (off2 i 1 hi) f7) $$ [H7]
  · iexact H7
  iintro %g7 %hg H7
  iapply (wp_snd sent κ c _ 1 (dev4 i c 1 hi _) (off3 i 1 hi) (k2_off4_eq c) (k2_off5_eq c) (off6 i 1 hi) (T1 c) (T2 c) rfl W g7
      (hg.trans (by rw [hs, part_zero2, part_zero2]))) $$ [H7 Hd HO Ht1 Ht2]
  · isplitr; · iexact HI
    isplitl [H7]; · iexact H7
    isplitl [Hd]; · iexact Hd
    isplitl [HO]; · iexact HO
    isplitl [Ht1]; · iexact Ht1
    isplitr; · iexact Hr1
    isplitl [Ht2]; · iexact Ht2
    iexact Hr2
  iintro ⟨Hfl, HO⟩
  iapply (wp_done c)
  iapply Hk
  isplitl [H2 H3 H4 H5]
  · isplitl [H2]; · iexact H2
    isplitl [H3]; · iexact H3
    isplitl [H4]; · iexact H4
    iexact H5
  isplitl [HO]; · iexists _; iexact HO
  unfold flying
  iexact Hfl

/-- Grid point 2: the block for the device before is computed and sent, and that of the device before arrives and is written. -/
theorem point2 (hi : (i 0).val = 2) (hs : sent c 2 = k2_pay4 (scal X4) (scal X5) X2 X3) (W : Waits sig Unit) (Q : PUnit → sProp 𝕄) :
    iprop(Inv sent κ ∗ reads c m2 m3 m4 m5 X2 X3 X4 X5 ∗ owes (c : Thread nD τ) (T2 c) W ∗ armed (F := F) c 2 ∗ door (F := F) c 2 ∗ await (F := F) c 0
        ∗ owns (c : Thread nD τ) m6 fullShare X6)
      ⊢ iprop((∀ X', ⌜rowsOf (bwd c 0) X' = k2_pay5 (sent (bwd c 0) 0)⌝ -∗ (reads c m2 m3 m4 m5 X2 X3 X4 X5 ∗ (∃ W, owes (c : Thread nD τ) 0 W) ∗ flying (F := F) c 2
              ∗ semVal (rcvCell c 0) 0 ∗ (∃ f, pts8 (F := F) c (bwd c 0) f) ∗ owns (c : Thread nD τ) m6 fullShare X') -∗ Q ⟨⟩)
          -∗ WP c (body i m1 h1 m2 h2 m3 h3 m4 h4 m5 h5 m6 h6) Q) := by
  have c1 : ¬ k2_cond1 i = 1#1 := fun h => by have := (cond1_iff i).1 h; omega
  have c2 : ¬ k2_cond2 i = 1#1 := fun h => by have := (cond2_iff i).1 h; omega
  have c3 : k2_cond3 i = 1#1 := (cond3_iff i).2 (by omega)
  have c4 : k2_cond4 i = 1#1 := (cond4_iff i).2 (by omega)
  have c5 : ¬ k2_cond5 i = 1#1 := fun h => by have := (cond5_iff i).1 h; omega
  unfold body
  simp only [cc2_body_eq_skeleton]
  unfold cc2_body_skel
  simp only [k2_part2_eq_skeleton]
  unfold k2_part2_skel
  simp only [dif_neg c1, dif_neg c2, dif_pos c3, dif_pos c4, dif_neg c5, smemLoad, smemLoadElt, semSignalWord, semWaitWord, Prog.lift, Prog.bind_op, Prog.bind_ret, Prog.pure_eq_ret, wp_deviceId]
  iintro ⟨#HI, Hreads, HO, Harm, Hdoor, Haw, H6⟩ Hk
  unfold reads
  icases Hreads with ⟨H2, H3, H4, H5⟩
  iapply (wp_ld c (m := m4) fullShare X4) $$ [H4]
  · iexact H4
  iintro H4
  iapply (wp_ld c (m := m5) fullShare X5) $$ [H5]
  · iexact H5
  iintro H5
  iapply (wp_ld c (m := m2) fullShare X2) $$ [H2]
  · iexact H2
  iintro H2
  iapply (wp_ld c (m := m3) fullShare X3) $$ [H3]
  · iexact H3
  iintro H3
  unfold armed door
  icases Harm with ⟨Ht1, #Hr1, Ht2, ⟨%f7, H7⟩⟩
  icases Hdoor with ⟨Hd, #Hr2⟩
  iapply (wp_ld7 c 2 (off2 i 2 hi) f7) $$ [H7]
  · iexact H7
  iintro H7
  iapply (wp_st7 c 2 (off2 i 2 hi) f7) $$ [H7]
  · iexact H7
  iintro %g7 %hg H7
  iapply (wp_snd sent κ c _ 2 (dev4 i c 2 hi _) (off3 i 2 hi) (k2_off4_eq c) (k2_off5_eq c) (off6 i 2 hi) (T2 c) (0) (by unfold T2; rw [zero_add]) W g7
      (hg.trans (by rw [hs, part_zero2, part_zero2]))) $$ [H7 Hd HO Ht1 Ht2]
  · isplitr; · iexact HI
    isplitl [H7]; · iexact H7
    isplitl [Hd]; · iexact Hd
    isplitl [HO]; · iexact HO
    isplitl [Ht1]; · iexact Ht1
    isplitr; · iexact Hr1
    isplitl [Ht2]; · iexact Ht2
    iexact Hr2
  iintro ⟨Hfl, HO⟩
  unfold await
  icases Haw with ⟨Hc, Hat⟩
  iapply (wp_rcv sent κ c 0 (off7 c) W) $$ [HO Hc Hat]
  · isplitr; · iexact HI
    isplitl [Hc]; · iexact Hc
    isplitl [HO]; · iexact HO
    iexact Hat
  iintro HO Hz %f8 %hf8 H8
  iapply (wp_ld8 c (bwd c 0) (off9 c) f8) $$ [H8]
  · iexact H8
  iintro H8
  iapply (wp_ld c (m := m6) fullShare X6) $$ [H6]
  · iexact H6
  iintro H6
  iapply (wp_st6 c (bwd c 0) (off10 c) X6) $$ [H6]
  · iexact H6
  iintro %X' %hX H6
  iapply (wp_done c)
  ispecialize Hk $$ %X'
  iapply Hk
  · ipureintro; rw [hX.1, hf8]
  isplitl [H2 H3 H4 H5]
  · isplitl [H2]; · iexact H2
    isplitl [H3]; · iexact H3
    isplitl [H4]; · iexact H4
    iexact H5
  isplitl [HO]; · iexact HO
  isplitl [Hfl]; · unfold flying; iexact Hfl
  isplitl [Hz]; · iexact Hz
  isplitl [H8]; · iexists f8; iexact H8
  iexact H6

/-- Grid point 3: the device's own block is computed and written, the last two blocks arrive and are written, and the sends end. -/
theorem point3 (hi : (i 0).val = 3) (W : Waits sig Unit) (Q : PUnit → sProp 𝕄) :
    iprop(Inv sent κ ∗ reads c m2 m3 m4 m5 X2 X3 X4 X5 ∗ owes (c : Thread nD τ) 0 W ∗ await (F := F) c 1 ∗ await (F := F) c 2
        ∗ (flying (F := F) c 0 ∗ atPos ER (sndCell c 0) 0 ∅ 0) ∗ (flying (F := F) c 1 ∗ atPos ER (sndCell c 1) 0 ∅ 0) ∗ (flying (F := F) c 2 ∗ atPos ER (sndCell c 2) 0 ∅ 0)
        ∗ owns (c : Thread nD τ) m6 fullShare X6)
      ⊢ iprop((∀ X', ⌜rowsOf c X' = k2_pay3 (scal X4) (scal X5) X2 X3 ∧ rowsOf (bwd c 0) X' = rowsOf (bwd c 0) X6
                ∧ rowsOf (bwd c 1) X' = k2_pay2 (sent (bwd c 1) 1) ∧ rowsOf (bwd c 2) X' = k2_pay1 (sent (bwd c 2) 2)⌝
            -∗ (reads c m2 m3 m4 m5 X2 X3 X4 X5 ∗ (∃ W, owes (c : Thread nD τ) 0 W)
              ∗ (semVal (rcvCell c 1) 0 ∗ ∃ f, pts8 (F := F) c (bwd c 1) f) ∗ (semVal (rcvCell c 2) 0 ∗ ∃ f, pts8 (F := F) c (bwd c 2) f)
              ∗ (semVal (sndCell c 0) 0 ∗ ∃ f, pts7 (F := F) c 0 f) ∗ (semVal (sndCell c 1) 0 ∗ ∃ f, pts7 (F := F) c 1 f) ∗ (semVal (sndCell c 2) 0 ∗ ∃ f, pts7 (F := F) c 2 f)
              ∗ owns (c : Thread nD τ) m6 fullShare X') -∗ Q ⟨⟩)
          -∗ WP c (body i m1 h1 m2 h2 m3 h3 m4 h4 m5 h5 m6 h6) Q) := by
  have c1 : ¬ k2_cond1 i = 1#1 := fun h => by have := (cond1_iff i).1 h; omega
  have c2 : k2_cond2 i = 1#1 := (cond2_iff i).2 (by omega)
  have c3 : ¬ k2_cond3 i = 1#1 := fun h => by have := (cond3_iff i).1 h; omega
  have c4 : ¬ k2_cond4 i = 1#1 := fun h => by have := (cond4_iff i).1 h; omega
  have c5 : k2_cond5 i = 1#1 := (cond5_iff i).2 (by omega)
  unfold body
  simp only [cc2_body_eq_skeleton]
  unfold cc2_body_skel
  simp only [k2_part2_eq_skeleton]
  unfold k2_part2_skel
  simp only [k2_part1_eq_skeleton]
  unfold k2_part1_skel
  simp only [dif_neg c1, dif_pos c2, dif_neg c3, dif_neg c4, dif_pos c5, smemLoad, smemLoadElt, semSignalWord, semWaitWord, Prog.lift, Prog.bind_op, Prog.bind_ret, Prog.pure_eq_ret, wp_deviceId]
  iintro ⟨#HI, Hreads, HO, Haw1, Haw2, ⟨Hf0, Ha0⟩, ⟨Hf1, Ha1⟩, ⟨Hf2, Ha2⟩, H6⟩ Hk
  unfold reads
  icases Hreads with ⟨H2, H3, H4, H5⟩
  iapply (wp_ld c (m := m4) fullShare X4) $$ [H4]
  · iexact H4
  iintro H4
  iapply (wp_ld c (m := m5) fullShare X5) $$ [H5]
  · iexact H5
  iintro H5
  iapply (wp_ld c (m := m2) fullShare X2) $$ [H2]
  · iexact H2
  iintro H2
  iapply (wp_ld c (m := m3) fullShare X3) $$ [H3]
  · iexact H3
  iintro H3
  iapply (wp_ld c (m := m6) fullShare X6) $$ [H6]
  · iexact H6
  iintro H6
  iapply (wp_st6 c c (k2_off1_eq c) X6) $$ [H6]
  · iexact H6
  iintro %Xa %hXa H6
  unfold await flying
  icases Haw1 with ⟨Hc, Hat⟩
  iapply (wp_rcv sent κ c 1 (off11_1 c) W) $$ [HO Hc Hat]
  · isplitr; · iexact HI
    isplitl [Hc]; · iexact Hc
    isplitl [HO]; · iexact HO
    iexact Hat
  iintro ⟨%W1, HO⟩ Hz1 %f1 %hf1 H81
  iapply (wp_ld8 c (bwd c 1) (off13_1 c) f1) $$ [H81]
  · iexact H81
  iintro H81
  iapply (wp_ld c (m := m6) fullShare Xa) $$ [H6]
  · iexact H6
  iintro H6
  iapply (wp_st6 c (bwd c 1) (off14_1 c) Xa) $$ [H6]
  · iexact H6
  iintro %Xb %hXb H6
  icases Haw2 with ⟨Hc, Hat⟩
  iapply (wp_rcv sent κ c 2 (off11_2 c) W1) $$ [HO Hc Hat]
  · isplitr; · iexact HI
    isplitl [Hc]; · iexact Hc
    isplitl [HO]; · iexact HO
    iexact Hat
  iintro ⟨%W2, HO⟩ Hz2 %f2 %hf2 H82
  iapply (wp_ld8 c (bwd c 2) (off13_2 c) f2) $$ [H82]
  · iexact H82
  iintro H82
  iapply (wp_ld c (m := m6) fullShare Xb) $$ [H6]
  · iexact H6
  iintro H6
  iapply (wp_st6 c (bwd c 2) (off14_2 c) Xb) $$ [H6]
  · iexact H6
  iintro %Xc %hXc H6
  iapply (wp_sdn sent κ c 0 (show (![0] : Fin 1 → ℕ) = ![((0 : Fin 3)).val] from rfl) W2) $$ [HO Hf0 Ha0]
  · isplitr; · iexact HI
    isplitl [Hf0]; · iexact Hf0
    isplitl [HO]; · iexact HO
    iexact Ha0
  iintro ⟨%V0, HO⟩ Hy0 H70
  iapply (wp_sdn sent κ c 1 (show (![1] : Fin 1 → ℕ) = ![((1 : Fin 3)).val] from rfl) V0) $$ [HO Hf1 Ha1]
  · isplitr; · iexact HI
    isplitl [Hf1]; · iexact Hf1
    isplitl [HO]; · iexact HO
    iexact Ha1
  iintro ⟨%V1, HO⟩ Hy1 H71
  iapply (wp_sdn sent κ c 2 (show (![2] : Fin 1 → ℕ) = ![((2 : Fin 3)).val] from rfl) V1) $$ [HO Hf2 Ha2]
  · isplitr; · iexact HI
    isplitl [Hf2]; · iexact Hf2
    isplitl [HO]; · iexact HO
    iexact Ha2
  iintro ⟨%V2, HO⟩ Hy2 H72
  iapply (wp_done c)
  ispecialize Hk $$ %Xc
  have n10 : bwd c 1 ≠ bwd c 0 := fun h => by have := bwd_inj c _ _ h; exact absurd this (by decide)
  have n20 : bwd c 2 ≠ bwd c 0 := fun h => by have := bwd_inj c _ _ h; exact absurd this (by decide)
  have n21 : bwd c 2 ≠ bwd c 1 := fun h => by have := bwd_inj c _ _ h; exact absurd this (by decide)
  iapply Hk
  · ipureintro
    refine ⟨?_, ?_, ?_, ?_⟩
    · rw [hXc.2 c (bwd_ne c 2).symm, hXb.2 c (bwd_ne c 1).symm, hXa.1, part_zero2, part_zero2]
    · rw [hXc.2 _ n20.symm, hXb.2 _ n10.symm, hXa.2 _ (bwd_ne c 0)]
    · rw [hXc.2 _ n21.symm, hXb.1, hf1]
    · rw [hXc.1, hf2]
  isplitl [H2 H3 H4 H5]
  · isplitl [H2]; · iexact H2
    isplitl [H3]; · iexact H3
    isplitl [H4]; · iexact H4
    iexact H5
  isplitl [HO]; · iexists _; iexact HO
  isplitl [Hz1 H81]
  · isplitl [Hz1]; · iexact Hz1
    iexists f1; iexact H81
  isplitl [Hz2 H82]
  · isplitl [Hz2]; · iexact Hz2
    iexists f2; iexact H82
  isplitl [Hy0 H70]
  · isplitl [Hy0]; · iexact Hy0
    iexact H70
  isplitl [Hy1 H71]
  · isplitl [Hy1]; · iexact Hy1
    iexact H71
  isplitl [Hy2 H72]
  · isplitl [Hy2]; · iexact Hy2
    iexact H72
  iexact H6

end Cert.KernelIdealProof
-- ==== Proof.Region2.lean ====
/-
  The fused product kernel's proof data: the table it is launched with, what its windows hold, what each grid point keeps, and the
  body's obligation from the four grid points.
-/
module

public import proofs.«01_k».proof.Proof.Body
public import Idealize.ShloMosaic.Lib.Pipeline.FrameBody
public import Idealize.ShloMosaic.Lib.Pipeline.DatRel

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ UU ℕ

/-! ## The table: the device's own number -/

/-- The prefetched table of device `c`. -/
def tabC (c : Dev nD) : pre2.Contents (Elt F) := fun
  | 0 => fun _ => BitVec.ofNat 32 c.val
  | ⟨_ + 1, h⟩ => absurd h (Nat.not_lt.2 (Nat.le_add_left _ _))

/-- The weight's block index with that table. -/
def colOf (c : Dev nD) (i : grid2.Coords) : Fin 2 → Nat :=
  ![0, (Scalar.remsi (Scalar.addi (Scalar.addi (BitVec.ofNat 32 c.val) 1#32) (BitVec.ofNat 32 (i 0).val)) 4#32).toNat]
theorem transform_tab (c : Dev nD) (i : grid2.Coords) : cc2_transform_1 inb_S1_S1_0 numel1_S1 (tabC (F := F) c) i = colOf c i := rfl
theorem colOf_eq : ∀ (c : Dev nD) (i : grid2.Coords), colOf c i = ![0, (c.val + 1 + (i 0).val) % 4] := by decide +kernel

theorem tab_ok (c : Dev nD) : ok2 (tabC (F := F) c) := by
  intro i
  rw [transform_tab]
  revert c i
  decide +kernel
/-- The table, admitted. -/
def tab (c : Dev nD) : (pcfgs (F := F) 2).Adm := ⟨tabC c, tab_ok c⟩

/-! ## What the windows hold -/

/-- The configuration device `c` runs. -/
abbrev cfgC (c : Dev nD) : Pipeline.Cfg sig Λ₀ := pcfg2.at (tab (F := F) c)

variable (V : Dev nD → Valuation τ sig (Elt F))

/-- Window `w`'s block at point `t`, of the contents `V` at entry. -/
def blkOf (c : Dev nD) (w : Fin 5) (t : Fin grid2.N) : ((cfgC (F := F) c).win w).block.Idx → Elt F ((cfgC (F := F) c).win w).elt :=
  (((cfgC (F := F) c).win w).blk t).view.read (Elt F) (V c (Pipeline.arrRef spec2 w))

/-- The block of the product that device `c` computes at point `t`: its rows of `x` by the columns of the weight it reads there. -/
def prodOf (c : Dev nD) (t : Fin grid2.N) : Vec F S1024x512 .f32 := k2_pay3 (scal (blkOf V c 2 t)) (scal (blkOf V c 3 t)) (blkOf V c 0 t) (blkOf V c 1 t)

/-- The three points at which a block is sent. -/
def tk (k : Fin 3) : Fin grid2.N := ⟨k.val, by rw [N_2]; omega⟩

/-- What device `d` sends at point `k`. -/
def sentOf : Sent F := fun d k => k2_pay4 (scal (blkOf V d 2 (tk k))) (scal (blkOf V d 3 (tk k))) (blkOf V d 0 (tk k)) (blkOf V d 1 (tk k))

/-- What the result's window holds after each point: nothing is known before point 2. -/
def Rl2 (c : Dev nD) : ℕ → (S4096x512.Idx → Elt F .f32) → Prop
  | 2, X => rowsOf (bwd c 0) X = k2_pay5 (sentOf V (bwd c 0) 0)
  | 3, X => rowsOf c X = prodOf V c t2_3 ∧ rowsOf (bwd c 0) X = k2_pay5 (sentOf V (bwd c 0) 0)
      ∧ rowsOf (bwd c 1) X = k2_pay2 (sentOf V (bwd c 1) 1) ∧ rowsOf (bwd c 2) X = k2_pay1 (sentOf V (bwd c 2) 2)
  | _, _ => True

def fgt2 : Fin 5 → Bool
  | 4 => true
  | _ => false
def RlW (c : Dev nD) : (w : Fin 5) → Fin grid2.N → (((cfgC (F := F) c).win w).block.Idx → Elt F ((cfgC (F := F) c).win w).elt) → Prop
  | 4, t, X => Rl2 V c t.val X
  | _, _, _ => True

/-! ## What the device keeps between the points -/

/-- The slot the device keeps for itself, and its unused semaphore. -/
def own (c : Dev nD) : sProp 𝕄 := iprop((∃ f, pts8 (F := F) c c f) ∗ semVal ((c : Thread nD τ), .dma (rcvS c)) 0)
/-- Block `k` has come in. -/
def got (c : Dev nD) (k : Fin 3) : sProp 𝕄 := iprop(semVal (rcvCell c k) 0 ∗ ∃ f, pts8 (F := F) c (bwd c k) f)
/-- Block `k` has gone out. -/
def gone (c : Dev nD) (k : Fin 3) : sProp 𝕄 := iprop(semVal (sndCell c k) 0 ∗ ∃ f, pts7 (F := F) c k f)
def sndAt (c : Dev nD) (k : Fin 3) : sProp 𝕄 := atPos ER (sndCell c k) 0 ∅ 0

/-- Before point 0; -/
def st0 (c : Dev nD) : sProp 𝕄 :=
  iprop(cred (tallyAt (barCell c) () 3) ∗ atPos ER (barCell c) 0 ∅ 0 ∗ hand (F := F) c 0 ∗ hand (F := F) c 1 ∗ hand (F := F) c 2
    ∗ armed (F := F) c 0 ∗ armed (F := F) c 1 ∗ armed (F := F) c 2 ∗ await (F := F) c 0 ∗ await (F := F) c 1 ∗ await (F := F) c 2
    ∗ sndAt (F := F) c 0 ∗ sndAt (F := F) c 1 ∗ sndAt (F := F) c 2 ∗ own (F := F) c)
/-- after point 0; -/
def st1 (c : Dev nD) : sProp 𝕄 :=
  iprop(semVal (barCell c) 0 ∗ flying (F := F) c 0 ∗ door (F := F) c 1 ∗ door (F := F) c 2
    ∗ armed (F := F) c 1 ∗ armed (F := F) c 2 ∗ await (F := F) c 0 ∗ await (F := F) c 1 ∗ await (F := F) c 2
    ∗ sndAt (F := F) c 0 ∗ sndAt (F := F) c 1 ∗ sndAt (F := F) c 2 ∗ own (F := F) c)
/-- after point 1; -/
def st2 (c : Dev nD) : sProp 𝕄 :=
  iprop(semVal (barCell c) 0 ∗ flying (F := F) c 0 ∗ flying (F := F) c 1 ∗ door (F := F) c 2 ∗ armed (F := F) c 2
    ∗ await (F := F) c 0 ∗ await (F := F) c 1 ∗ await (F := F) c 2
    ∗ sndAt (F := F) c 0 ∗ sndAt (F := F) c 1 ∗ sndAt (F := F) c 2 ∗ own (F := F) c)
/-- after point 2; -/
def st3 (c : Dev nD) : sProp 𝕄 :=
  iprop(semVal (barCell c) 0 ∗ flying (F := F) c 0 ∗ flying (F := F) c 1 ∗ flying (F := F) c 2
    ∗ got (F := F) c 0 ∗ await (F := F) c 1 ∗ await (F := F) c 2
    ∗ sndAt (F := F) c 0 ∗ sndAt (F := F) c 1 ∗ sndAt (F := F) c 2 ∗ own (F := F) c)
/-- after point 3. -/
def st4 (c : Dev nD) : sProp 𝕄 :=
  iprop(semVal (barCell c) 0 ∗ got (F := F) c 0 ∗ got (F := F) c 1 ∗ got (F := F) c 2
    ∗ gone (F := F) c 0 ∗ gone (F := F) c 1 ∗ gone (F := F) c 2 ∗ own (F := F) c)

def stAt (c : Dev nD) : ℕ → sProp 𝕄
  | 0 => st0 c | 1 => st1 c | 2 => st2 c | 3 => st3 c | _ => st4 c
def owedAt (c : Dev nD) : ℕ → CellTallies nD τ sig Unit
  | 0 => O₀ c | 1 => T1 c | 2 => T2 c | _ => 0
/-- The cells' invariants and levels, kept throughout. -/
def ctx : sProp 𝕄 := iprop((∃ κ, Inv (sentOf V) κ) ∗ levAts L lv)
instance : BI.Persistent (ctx V : sProp 𝕄) := by unfold ctx; infer_instance

/-- A whole buffer in scope, at any contents. -/
abbrev anyAt (c : Dev nD) (b : Ref sig .tc) : sProp 𝕄 := iprop(∃ f : Buf (Elt F) ((c : Thread nD τ).loc b), ((c : Thread nD τ).loc b) ↦{fullShare} f)
/-- The buffers in scope that the kernel does not use. -/
def keep (c : Dev nD) : sProp 𝕄 :=
  iprop(anyAt (F := F) c cc0_stg0_0 ∗ anyAt (F := F) c cc0_stg0_1 ∗ anyAt (F := F) c cc0_stg1_0 ∗ anyAt (F := F) c cc0_stg1_1
    ∗ anyAt (F := F) c cc1_stg0_0 ∗ anyAt (F := F) c cc1_stg0_1 ∗ anyAt (F := F) c cc1_stg1_0 ∗ anyAt (F := F) c cc1_stg1_1)

/-- The proof data. -/
def dat2 (c : Dev nD) : Dat τ (Elt F) Unit ℕ UU ℕ (cfgC (F := F) c) c where
  A w := V c (Pipeline.arrRef spec2 w)
  after w t := blkOf V c w t
  Φ t := iprop(ctx V ∗ keep c ∗ stAt c t.val)
  q _ := fullShare
  owed t := owedAt c t.val

theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    iprop(∃ W, owes (c : Thread nD τ) O W) ⊢ (dat.owesAt () t : sProp 𝕄) := by
  unfold Dat.owesAt Pipeline.owesWithin Dat.bound
  rw [h, hr]
  iintro ⟨%W, HO⟩
  iexists W
  isplitr
  · ipureintro; exact fun _ _ => .inl trivial
  iexact HO
theorem owes_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ iprop(∃ W, owes (c : Thread nD τ) O W) := by
  unfold Dat.owesAt Pipeline.owesWithin
  rw [h]
  iintro ⟨%W, -, HO⟩
  iexists W
  iexact HO

/-- An operand's window holds its block at every point. -/
theorem before2 (c : Dev nD) (w : Fin 5) (hw : ((cfgC (F := F) c).win w).isOut = false) (hl : ∀ i, idle2 w i = false) (t : Fin grid2.N) (d) :
    (dat2 V c).before w t d = blkOf V c w t :=
  ((dat2 V c).before_in_eq_fetched w hw hl (fun _ _ _ => rfl) (fun _ => rfl) t d).trans
    (((dat2 V c).fetched_of_clip_none w t (fun _ => rfl) d (blkOf V c w t)).trans (((cfgC (F := F) c).win w).fill_cut _ _))

theorem flush4 (c : Dev nD) (t : Fin grid2.N) : ((cfgC (F := F) c).win 4).flush t = decide (t.val = 3) := by
  rcases fin_N2 t with rfl | rfl | rfl | rfl <;> rfl

/-! ## The body's obligation -/

/-- Window `w`'s staging buffer at point `t`. -/
abbrev stg (c : Dev nD) (t : Fin grid2.N) (w : Fin 5) := ((cfgC (F := F) c).win w).stage ((cfgC (F := F) c).slots t w)

/-- The operands' windows at point `t`. -/
abbrev readsAt (c : Dev nD) (t : Fin grid2.N) : sProp 𝕄 :=
  reads c (stg (F := F) c t 0) (stg (F := F) c t 1) (stg (F := F) c t 2) (stg (F := F) c t 3) (blkOf V c 0 t) (blkOf V c 1 t) (blkOf V c 2 t) (blkOf V c 3 t)
/-- The result's window at point `t`, at contents that meet `P`. -/
abbrev outAt (c : Dev nD) (t : Fin grid2.N) (P : (S4096x512.Idx → Elt F .f32) → Prop) : sProp 𝕄 :=
  iprop(∃ X, ⌜P X⌝ ∗ owns (c : Thread nD τ) (stg (F := F) c t 4) fullShare X)
abbrev bodyT (c : Dev nD) (t : Fin grid2.N) := defs₀ (F := F) .tc (cfgC (F := F) c).body ((cfgC (F := F) c).bodyArgs t ((cfgC (F := F) c).slots t))

theorem wins_in (c : Dev nD) (t : Fin grid2.N) (P : (S4096x512.Idx → Elt F .f32) → Prop) (hP : ∀ X, ((dat2 V c).toRRel fgt2 (RlW V c)).Finds 4 t X → P X) :
    (bigSep Finset.univ fun w : Fin 5 =>
      match fgt2 w with
      | true => iprop(∃ Y, ⌜((dat2 V c).toRRel fgt2 (RlW V c)).Finds w t Y⌝ ∗ owns (c : Thread nD τ) (stg (F := F) c t w) fullShare Y)
      | false => iprop(∃ d, owns (c : Thread nD τ) (stg (F := F) c t w) fullShare ((dat2 V c).before w t d)))
      ⊢ iprop(readsAt V c t ∗ outAt c t P) := by
  rw [bigSep_W2]
  simp only [fgt2]
  iintro ⟨⟨%d0, H0⟩, ⟨%d1, H1⟩, ⟨%d2, H2⟩, ⟨%d3, H3⟩, %Y, %hY, H4⟩
  rw [before2 V c 0 rfl (fun _ => rfl) t d0, before2 V c 1 rfl (fun _ => rfl) t d1, before2 V c 2 rfl (fun _ => rfl) t d2, before2 V c 3 rfl (fun _ => rfl) t d3]
  isplitr [H4]
  · unfold readsAt reads
    isplitl [H0]; · iexact H0
    isplitl [H1]; · iexact H1
    isplitl [H2]; · iexact H2
    iexact H3
  iexists Y
  isplitr
  · ipureintro; exact hP Y hY
  iexact H4

theorem wins_out (c : Dev nD) (t : Fin grid2.N) :
    (iprop(readsAt V c t ∗ outAt c t (Rl2 V c t.val)) : sProp 𝕄)
      ⊢ bigSep Finset.univ fun w : Fin 5 =>
          match fgt2 w with
          | true => iprop(∃ X, ⌜RlW V c w t X⌝ ∗ owns (c : Thread nD τ) (stg (F := F) c t w) fullShare X)
          | false =>
            match (cfgC (F := F) c).idle w (grid2.coords t) with
            | true =>
              match ((cfgC (F := F) c).win w).flush t with
              | false => iprop(∃ d, owns (c : Thread nD τ) (stg (F := F) c t w) fullShare ((dat2 V c).before w t d))
              | true =>
                match (cfgC (F := F) c).loose w with
                | true => iprop(∃ d, owns (c : Thread nD τ) (stg (F := F) c t w) fullShare (((cfgC (F := F) c).win w).fill (grid2.coords t) d (((cfgC (F := F) c).win w).cut (grid2.coords t) ((dat2 V c).after w t))))
                | false => owns (c : Thread nD τ) (stg (F := F) c t w) fullShare ((dat2 V c).after w t)
            | false =>
              match (cfgC (F := F) c).loose w with
              | true => iprop(∃ d, owns (c : Thread nD τ) (stg (F := F) c t w) fullShare (((cfgC (F := F) c).win w).fill (grid2.coords t) d (((cfgC (F := F) c).win w).cut (grid2.coords t) ((dat2 V c).after w t))))
              | false => owns (c : Thread nD τ) (stg (F := F) c t w) fullShare ((dat2 V c).after w t) := by
  rw [bigSep_W2]
  have h : (iprop(readsAt V c t ∗ outAt c t (Rl2 V c t.val)) : sProp 𝕄)
      ⊢ iprop(owns (c : Thread nD τ) (stg (F := F) c t 0) fullShare (blkOf V c 0 t) ∗ owns (c : Thread nD τ) (stg (F := F) c t 1) fullShare (blkOf V c 1 t)
        ∗ owns (c : Thread nD τ) (stg (F := F) c t 2) fullShare (blkOf V c 2 t) ∗ owns (c : Thread nD τ) (stg (F := F) c t 3) fullShare (blkOf V c 3 t)
        ∗ outAt c t (Rl2 V c t.val)) := by
    unfold readsAt reads
    iintro ⟨⟨H0, H1, H2, H3⟩, H4⟩
    isplitl [H0]; · iexact H0
    isplitl [H1]; · iexact H1
    isplitl [H2]; · iexact H2
    isplitl [H3]; · iexact H3
    iexact H4
  exact h

/-- The obligation at a point, its windows named. -/
theorem obl2 (c : Dev nD) (t : Fin grid2.N) (P : (S4096x512.Idx → Elt F .f32) → Prop)
    (hP : ∀ X, ((dat2 V c).toRRel fgt2 (RlW V c)).Finds 4 t X → P X) (O O' : CellTallies nD τ sig Unit)
    (hO : owedAt c t.val = O) (hO' : owedAt c (t.val + 1) = O')
    (h : ∀ (κ : GSem nD τ sig → ℕ) (X : S4096x512.Idx → Elt F .f32) (hX : P X) (W : Waits sig Unit),
      (iprop(Inv (sentOf V) κ ∗ levAts L lv ∗ stAt c t.val ∗ owes (c : Thread nD τ) O W ∗ readsAt V c t ∗ owns (c : Thread nD τ) (stg (F := F) c t 4) fullShare X) : sProp 𝕄)
        ⊢ WP c (bodyT (F := F) c t) fun _ => iprop(stAt c (t.val + 1) ∗ (∃ W, owes (c : Thread nD τ) O' W) ∗ readsAt V c t ∗ outAt c t (Rl2 V c t.val))) :
    (iprop((dat2 V c).Φ t.castSucc ∗ (dat2 V c).owesAt () t.castSucc
        ∗ bigSep Finset.univ fun w : Fin 5 =>
            match fgt2 w with
            | true => iprop(∃ Y, ⌜((dat2 V c).toRRel fgt2 (RlW V c)).Finds w t Y⌝ ∗ owns (c : Thread nD τ) (stg (F := F) c t w) fullShare Y)
            | false => iprop(∃ d, owns (c : Thread nD τ) (stg (F := F) c t w) fullShare ((dat2 V c).before w t d))) : sProp 𝕄)
      ⊢ WP c (bodyT (F := F) c t) fun _ => iprop((dat2 V c).Φ t.succ ∗ (dat2 V c).owesAt () t.succ ∗ (readsAt V c t ∗ outAt c t (Rl2 V c t.val))) := by
  refine (sep_mono .rfl (sep_mono (owes_out (dat2 V c) t.castSucc O hO) (wins_in V c t P hP))).trans ?_
  rw [show (dat2 V c).Φ t.castSucc = iprop(((∃ κ, Inv (sentOf V) κ) ∗ levAts L lv) ∗ keep c ∗ stAt c t.val) from rfl]
  iintro ⟨⟨#Hc, Hkeep, Hst⟩, ⟨%W, HO⟩, Hr, %X, %hX, H4⟩
  icases Hc with ⟨⟨%κ, #HI⟩, #HL⟩
  have hw := wp_wand frame (wpE defs₀ 𝒱₀ (c : Thread nD τ) none) Set.univ (p := bodyT (F := F) c t)
    (Q := fun _ => iprop(stAt (F := F) c (t.val + 1) ∗ (∃ W, owes (c : Thread nD τ) O' W) ∗ readsAt V c t ∗ outAt c t (Rl2 V c t.val)))
    (Q' := fun _ => iprop((dat2 V c).Φ t.succ ∗ (dat2 V c).owesAt () t.succ ∗ (readsAt V c t ∗ outAt c t (Rl2 V c t.val))))
  iapply hw $$ [Hst HO Hr H4]
  · iapply (h κ X hX W)
    isplitr; · iexact HI
    isplitr; · iexact HL
    isplitl [Hst]; · iexact Hst
    isplitl [HO]; · iexact HO
    isplitl [Hr]; · iexact Hr
    iexact H4
  iintro %a ⟨Hst, HO, Hr⟩
  isplitl [Hkeep Hst]
  · rw [show (dat2 V c).Φ t.succ = iprop(ctx V ∗ keep c ∗ stAt c (t.val + 1)) from rfl]
    isplitr
    · unfold ctx
      isplitr
      · iexists κ; iexact HI
      iexact HL
    isplitl [Hkeep]; · iexact Hkeep
    iexact Hst
  isplitl [HO]
  · iapply (owes_in (dat2 V c) t.succ O' hO' rfl); iexact HO
  iexact Hr

theorem whole2_0 (c : Dev nD) (t : Fin grid2.N) : (stg (F := F) c t 0).IsWhole := hstage2_0 (((cfgC (F := F) c).slots t 0).cast nbuf2_0)
theorem whole2_1 (c : Dev nD) (t : Fin grid2.N) : (stg (F := F) c t 1).IsWhole := hstage2_1 (((cfgC (F := F) c).slots t 1).cast nbuf2_1)
theorem whole2_2 (c : Dev nD) (t : Fin grid2.N) : (stg (F := F) c t 2).IsWhole := hstage2_2 (((cfgC (F := F) c).slots t 2).cast nbuf2_2)
theorem whole2_3 (c : Dev nD) (t : Fin grid2.N) : (stg (F := F) c t 3).IsWhole := hstage2_3 (((cfgC (F := F) c).slots t 3).cast nbuf2_3)
theorem whole2_4 (c : Dev nD) (t : Fin grid2.N) : (stg (F := F) c t 4).IsWhole := hstage2_4 (((cfgC (F := F) c).slots t 4).cast nbuf2_4)

/-- The body at point `t`, its operands named. -/
abbrev bodyB (c : Dev nD) (t : Fin grid2.N) : Prog (TpuEff nD τ sig (Elt F) Λ₀ .tc) PUnit :=
  body (grid2.coords t) (Memref.whole main_v7) (Memref.isWhole_whole _) (stg (F := F) c t 0) (whole2_0 c t) (stg (F := F) c t 1) (whole2_1 c t)
    (stg (F := F) c t 2) (whole2_2 c t) (stg (F := F) c t 3) (whole2_3 c t) (stg (F := F) c t 4) (whole2_4 c t)
theorem bodyT_eq (c : Dev nD) (t : Fin grid2.N) : bodyT (F := F) c t = bodyB c t := rfl

theorem step0 (c : Dev nD) (κ : GSem nD τ sig → ℕ) (X : S4096x512.Idx → Elt F .f32) (W : Waits sig Unit) :
    (iprop(Inv (sentOf V) κ ∗ levAts L lv ∗ st0 c ∗ owes (c : Thread nD τ) (O₀ c) W ∗ readsAt V c t2_0 ∗ owns (c : Thread nD τ) (stg (F := F) c t2_0 4) fullShare X) : sProp 𝕄)
      ⊢ WP c (bodyB (F := F) c t2_0) fun _ => iprop(st1 c ∗ (∃ W, owes (c : Thread nD τ) (T1 c) W) ∗ readsAt V c t2_0 ∗ outAt c t2_0 (Rl2 V c 0)) := by
  have hp := fun Q => point0 (sentOf V) κ c (grid2.coords t2_0) (h1 := Memref.isWhole_whole main_v7) (h2 := whole2_0 (F := F) c t2_0) (h3 := whole2_1 (F := F) c t2_0)
    (h4 := whole2_2 (F := F) c t2_0) (h5 := whole2_3 (F := F) c t2_0) (h6 := whole2_4 (F := F) c t2_0)
    (blkOf V c 0 t2_0) (blkOf V c 1 t2_0) (blkOf V c 2 t2_0) (blkOf V c 3 t2_0) (by decide +kernel) rfl W Q
  unfold st0 st1
  iintro ⟨HI, HL, ⟨Hc, Ha, Hh0, Hh1, Hh2, Hm0, Hm1, Hm2, Hw0, Hw1, Hw2, Hs0, Hs1, Hs2, Hown⟩, HO, Hr, H6⟩
  iapply (hp _) $$ [HI HL Hr HO Hc Ha Hh0 Hh1 Hh2 Hm0]
  · isplitl [HI]; · iexact HI
    isplitl [HL]; · iexact HL
    isplitl [Hr]; · iexact Hr
    isplitl [HO]; · iexact HO
    isplitl [Hc]; · iexact Hc
    isplitl [Ha]; · iexact Ha
    isplitl [Hh0]; · iexact Hh0
    isplitl [Hh1]; · iexact Hh1
    isplitl [Hh2]; · iexact Hh2
    iexact Hm0
  iintro ⟨Hr, HO, Hf0, Hb, Hd1, Hd2⟩
  isplitr [HO Hr H6]
  · isplitl [Hb]; · iexact Hb
    isplitl [Hf0]; · iexact Hf0
    isplitl [Hd1]; · iexact Hd1
    isplitl [Hd2]; · iexact Hd2
    isplitl [Hm1]; · iexact Hm1
    isplitl [Hm2]; · iexact Hm2
    isplitl [Hw0]; · iexact Hw0
    isplitl [Hw1]; · iexact Hw1
    isplitl [Hw2]; · iexact Hw2
    isplitl [Hs0]; · iexact Hs0
    isplitl [Hs1]; · iexact Hs1
    isplitl [Hs2]; · iexact Hs2
    iexact Hown
  isplitl [HO]; · iexact HO
  isplitl [Hr]; · iexact Hr
  iexists X
  isplitr
  · ipureintro; exact trivial
  iexact H6

theorem step1 (c : Dev nD) (κ : GSem nD τ sig → ℕ) (X : S4096x512.Idx → Elt F .f32) (W : Waits sig Unit) :
    (iprop(Inv (sentOf V) κ ∗ levAts L lv ∗ st1 c ∗ owes (c : Thread nD τ) (T1 c) W ∗ readsAt V c t2_1 ∗ owns (c : Thread nD τ) (stg (F := F) c t2_1 4) fullShare X) : sProp 𝕄)
      ⊢ WP c (bodyB (F := F) c t2_1) fun _ => iprop(st2 c ∗ (∃ W, owes (c : Thread nD τ) (T2 c) W) ∗ readsAt V c t2_1 ∗ outAt c t2_1 (Rl2 V c 1)) := by
  have hp := fun Q => point1 (sentOf V) κ c (grid2.coords t2_1) (h1 := Memref.isWhole_whole main_v7) (h2 := whole2_0 (F := F) c t2_1) (h3 := whole2_1 (F := F) c t2_1)
    (h4 := whole2_2 (F := F) c t2_1) (h5 := whole2_3 (F := F) c t2_1) (h6 := whole2_4 (F := F) c t2_1)
    (blkOf V c 0 t2_1) (blkOf V c 1 t2_1) (blkOf V c 2 t2_1) (blkOf V c 3 t2_1) (by decide +kernel) rfl W Q
  unfold st1 st2
  iintro ⟨HI, HL, ⟨Hb, Hf0, Hd1, Hd2, Hm1, Hm2, Hw0, Hw1, Hw2, Hs0, Hs1, Hs2, Hown⟩, HO, Hr, H6⟩
  iapply (hp _) $$ [HI Hr HO Hm1 Hd1]
  · isplitl [HI]; · iexact HI
    isplitl [Hr]; · iexact Hr
    isplitl [HO]; · iexact HO
    isplitl [Hm1]; · iexact Hm1
    iexact Hd1
  iintro ⟨Hr, HO, Hf1⟩
  isplitr [HO Hr H6]
  · isplitl [Hb]; · iexact Hb
    isplitl [Hf0]; · iexact Hf0
    isplitl [Hf1]; · iexact Hf1
    isplitl [Hd2]; · iexact Hd2
    isplitl [Hm2]; · iexact Hm2
    isplitl [Hw0]; · iexact Hw0
    isplitl [Hw1]; · iexact Hw1
    isplitl [Hw2]; · iexact Hw2
    isplitl [Hs0]; · iexact Hs0
    isplitl [Hs1]; · iexact Hs1
    isplitl [Hs2]; · iexact Hs2
    iexact Hown
  isplitl [HO]; · iexact HO
  isplitl [Hr]; · iexact Hr
  iexists X
  isplitr
  · ipureintro; exact trivial
  iexact H6

theorem step2 (c : Dev nD) (κ : GSem nD τ sig → ℕ) (X : S4096x512.Idx → Elt F .f32) (W : Waits sig Unit) :
    (iprop(Inv (sentOf V) κ ∗ levAts L lv ∗ st2 c ∗ owes (c : Thread nD τ) (T2 c) W ∗ readsAt V c t2_2 ∗ owns (c : Thread nD τ) (stg (F := F) c t2_2 4) fullShare X) : sProp 𝕄)
      ⊢ WP c (bodyB (F := F) c t2_2) fun _ => iprop(st3 c ∗ (∃ W, owes (c : Thread nD τ) 0 W) ∗ readsAt V c t2_2 ∗ outAt c t2_2 (Rl2 V c 2)) := by
  have hp := fun Q => point2 (sentOf V) κ c (grid2.coords t2_2) (h1 := Memref.isWhole_whole main_v7) (h2 := whole2_0 (F := F) c t2_2) (h3 := whole2_1 (F := F) c t2_2)
    (h4 := whole2_2 (F := F) c t2_2) (h5 := whole2_3 (F := F) c t2_2) (h6 := whole2_4 (F := F) c t2_2)
    (blkOf V c 0 t2_2) (blkOf V c 1 t2_2) (blkOf V c 2 t2_2) (blkOf V c 3 t2_2) X (by decide +kernel) rfl W Q
  unfold st2 st3 got
  iintro ⟨HI, HL, ⟨Hb, Hf0, Hf1, Hd2, Hm2, Hw0, Hw1, Hw2, Hs0, Hs1, Hs2, Hown⟩, HO, Hr, H6⟩
  iapply (hp _) $$ [HI Hr HO Hm2 Hd2 Hw0 H6]
  · isplitl [HI]; · iexact HI
    isplitl [Hr]; · iexact Hr
    isplitl [HO]; · iexact HO
    isplitl [Hm2]; · iexact Hm2
    isplitl [Hd2]; · iexact Hd2
    isplitl [Hw0]; · iexact Hw0
    iexact H6
  iintro %X' %hX' ⟨Hr, HO, Hf2, Hg0, Hp0, H6⟩
  isplitr [HO Hr H6]
  · isplitl [Hb]; · iexact Hb
    isplitl [Hf0]; · iexact Hf0
    isplitl [Hf1]; · iexact Hf1
    isplitl [Hf2]; · iexact Hf2
    isplitl [Hg0 Hp0]
    · isplitl [Hg0]; · iexact Hg0
      iexact Hp0
    isplitl [Hw1]; · iexact Hw1
    isplitl [Hw2]; · iexact Hw2
    isplitl [Hs0]; · iexact Hs0
    isplitl [Hs1]; · iexact Hs1
    isplitl [Hs2]; · iexact Hs2
    iexact Hown
  isplitl [HO]; · iexact HO
  isplitl [Hr]; · iexact Hr
  iexists X'
  isplitr
  · ipureintro; exact hX'
  iexact H6

theorem step3 (c : Dev nD) (κ : GSem nD τ sig → ℕ) (X : S4096x512.Idx → Elt F .f32) (hX : Rl2 V c 2 X) (W : Waits sig Unit) :
    (iprop(Inv (sentOf V) κ ∗ levAts L lv ∗ st3 c ∗ owes (c : Thread nD τ) 0 W ∗ readsAt V c t2_3 ∗ owns (c : Thread nD τ) (stg (F := F) c t2_3 4) fullShare X) : sProp 𝕄)
      ⊢ WP c (bodyB (F := F) c t2_3) fun _ => iprop(st4 c ∗ (∃ W, owes (c : Thread nD τ) 0 W) ∗ readsAt V c t2_3 ∗ outAt c t2_3 (Rl2 V c 3)) := by
  have hp := fun Q => point3 (sentOf V) κ c (grid2.coords t2_3) (h1 := Memref.isWhole_whole main_v7) (h2 := whole2_0 (F := F) c t2_3) (h3 := whole2_1 (F := F) c t2_3)
    (h4 := whole2_2 (F := F) c t2_3) (h5 := whole2_3 (F := F) c t2_3) (h6 := whole2_4 (F := F) c t2_3)
    (blkOf V c 0 t2_3) (blkOf V c 1 t2_3) (blkOf V c 2 t2_3) (blkOf V c 3 t2_3) X (by decide +kernel) W Q
  unfold st3 st4 got gone sndAt
  iintro ⟨HI, HL, ⟨Hb, Hf0, Hf1, Hf2, Hg0, Hw1, Hw2, Hs0, Hs1, Hs2, Hown⟩, HO, Hr, H6⟩
  iapply (hp _) $$ [HI Hr HO Hw1 Hw2 Hf0 Hs0 Hf1 Hs1 Hf2 Hs2 H6]
  · isplitl [HI]; · iexact HI
    isplitl [Hr]; · iexact Hr
    isplitl [HO]; · iexact HO
    isplitl [Hw1]; · iexact Hw1
    isplitl [Hw2]; · iexact Hw2
    isplitl [Hf0 Hs0]
    · isplitl [Hf0]; · iexact Hf0
      iexact Hs0
    isplitl [Hf1 Hs1]
    · isplitl [Hf1]; · iexact Hf1
      iexact Hs1
    isplitl [Hf2 Hs2]
    · isplitl [Hf2]; · iexact Hf2
      iexact Hs2
    iexact H6
  iintro %X' %hX' ⟨Hr, HO, Hg1, Hg2, Hn0, Hn1, Hn2, H6⟩
  isplitr [HO Hr H6]
  · isplitl [Hb]; · iexact Hb
    isplitl [Hg0]; · iexact Hg0
    isplitl [Hg1]; · iexact Hg1
    isplitl [Hg2]; · iexact Hg2
    isplitl [Hn0]; · iexact Hn0
    isplitl [Hn1]; · iexact Hn1
    isplitl [Hn2]; · iexact Hn2
    iexact Hown
  isplitl [HO]; · iexact HO
  isplitl [Hr]; · iexact Hr
  iexists X'
  isplitr
  · ipureintro; exact ⟨hX'.1, hX'.2.1.trans hX, hX'.2.2⟩
  iexact H6

/-- Before point 3 the result's window holds what point 2 left. -/
theorem finds3 (c : Dev nD) (X : S4096x512.Idx → Elt F .f32) (h : ((dat2 V c).toRRel fgt2 (RlW V c)).Finds 4 t2_3 X) : Rl2 V c 2 X := by
  rcases (Pipeline.RDat.finds_of_pos ((dat2 V c).toRRel fgt2 (RlW V c)) (w := 4) (t := t2_3) rfl (show (3 : ℕ) ≠ 0 by decide) X).1 h with h | h
  · exact absurd ((flush4 (F := F) c t2_2).symm.trans h) (by decide)
  · exact (dat2 V c).toRRel_leaves (w := 4) rfl h

/-- The body meets the data. -/
theorem body2 (c : Dev nD) : BodyObligationRel (dat2 V c) defs₀ 𝒱₀ () Set.univ fgt2 (RlW V c) := fun t => by
  have hm : ∀ P : sProp 𝕄, (P ⊢ WP c (bodyT (F := F) c t) fun _ => iprop((dat2 V c).Φ t.succ ∗ (dat2 V c).owesAt () t.succ ∗ (readsAt V c t ∗ outAt c t (Rl2 V c t.val)))) →
      P ⊢ WP c (bodyT (F := F) c t) _ := fun P h => h.trans (wp_mono frame (wpE defs₀ 𝒱₀ (c : Thread nD τ) none) Set.univ fun _ => sep_mono .rfl (sep_mono .rfl (wins_out V c t)))
  refine hm _ ?_
  rcases fin_N2 t with rfl | rfl | rfl | rfl
  · exact obl2 V c t2_0 (fun _ => True) (fun _ _ => trivial) (O₀ c) (T1 c) rfl rfl fun κ X _ W => step0 V c κ X W
  · exact obl2 V c t2_1 (fun _ => True) (fun _ _ => trivial) (T1 c) (T2 c) rfl rfl fun κ X _ W => step1 V c κ X W
  · exact obl2 V c t2_2 (fun _ => True) (fun _ _ => trivial) (T2 c) 0 rfl rfl fun κ X _ W => step2 V c κ X W
  · exact obl2 V c t2_3 (Rl2 V c 2) (finds3 V c) 0 0 rfl rfl fun κ X hX W => step3 V c κ X hX W

end Cert.KernelIdealProof

end
-- ==== Proof.Slots.lean ====
/-
  The exchange buffers cut into their slots and put together again, and the four slots or semaphores of one device named by what they
  are for: its own, and the three of its peers.
-/
module

public import proofs.«01_k».proof.Proof.Region2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem set7 (k : Fin 3) (x : S3x1024x512.Idx) : x ∈ (slot7 k).view.set ↔ (x 0).val = k.val := by
  rw [show (slot7 k).view.set = (Rect.unit (s := S3x1024x512) ![k.val, 0, 0] S1x1024x512.size (inb7 k)).set from View.set_slice_whole _ _, Rect.mem_set_unit]
  have h1 := (x 1).isLt
  have h2 := (x 2).isLt
  rw [Fin.forall_fin_succ, Fin.forall_fin_succ, Fin.forall_fin_succ]
  simp [Shape.size] at h1 h2 ⊢
  omega

theorem set8 (s : Fin 4) (x : S4x1024x512.Idx) : x ∈ (slot8 s).view.set ↔ (x 0).val = s.val := by
  rw [show (slot8 s).view.set = (Rect.unit (s := S4x1024x512) ![s.val, 0, 0] S1x1024x512.size (inb8 s)).set from View.set_slice_whole _ _, Rect.mem_set_unit]
  have h1 := (x 1).isLt
  have h2 := (x 2).isLt
  rw [Fin.forall_fin_succ, Fin.forall_fin_succ, Fin.forall_fin_succ]
  simp [Shape.size] at h1 h2 ⊢
  omega

theorem all7 : (Finset.univ : Finset (Fin 3)).biUnion (fun k => (slot7 k).view.set) = (Finset.univ : Finset S3x1024x512.Idx) := by
  ext x
  simp only [Finset.mem_biUnion, Finset.mem_univ, true_and, iff_true]
  exact ⟨⟨(x 0).val, (x 0).isLt⟩, (set7 _ x).mpr rfl⟩
theorem all8 : (Finset.univ : Finset (Fin 4)).biUnion (fun s => (slot8 s).view.set) = (Finset.univ : Finset S4x1024x512.Idx) := by
  ext x
  simp only [Finset.mem_biUnion, Finset.mem_univ, true_and, iff_true]
  exact ⟨⟨(x 0).val, (x 0).isLt⟩, (set8 _ x).mpr rfl⟩
theorem disj7 : ∀ k ∈ (Finset.univ : Finset (Fin 3)), ∀ k' ∈ (Finset.univ : Finset (Fin 3)), k ≠ k' → Disjoint ((slot7 k).view.set) ((slot7 k').view.set) :=
  fun k _ k' _ h => Finset.disjoint_left.mpr fun x hx hx' => h (Fin.ext (((set7 k x).mp hx).symm.trans ((set7 k' x).mp hx')))
theorem disj8 : ∀ k ∈ (Finset.univ : Finset (Fin 4)), ∀ k' ∈ (Finset.univ : Finset (Fin 4)), k ≠ k' → Disjoint ((slot8 k).view.set) ((slot8 k').view.set) :=
  fun k _ k' _ h => Finset.disjoint_left.mpr fun x hx hx' => h (Fin.ext (((set8 k x).mp hx).symm.trans ((set8 k' x).mp hx')))

/-- Something held for each of the four devices: the device's own, and its three peers'. -/
theorem bigSep_peers (c : Dev nD) (Φ : Dev nD → sProp 𝕄) :
    bigSep Finset.univ Φ = iprop(Φ c ∗ Φ (bwd c 0) ∗ Φ (bwd c 1) ∗ Φ (bwd c 2)) := by
  rw [bigSep_univ_eq_bigSepL [c, bwd c 0, bwd c 1, bwd c 2] (by revert c; decide) (by revert c; decide)]
  rfl

theorem cut7 (c : Dev nD) (f : Buf (Elt F) ((c : Thread nD τ).loc cc2_scratch0)) :
    (((c : Thread nD τ).loc cc2_scratch0) ↦{fullShare} f : sProp 𝕄) = bigSep Finset.univ fun k => pts7 (F := F) c k f := by
  have h := pointsTo_biUnion (Ix := Unit) (Name := ℕ) (U := UU) (Lvl := ℕ) (ℓ := (c : Thread nD τ).loc cc2_scratch0) (q := fullShare) (f := f) (Finset.univ : Finset (Fin 3)) (fun k => (slot7 k).view.set) disj7
  rw [all7] at h
  exact h
theorem cut8 (c : Dev nD) (f : Buf (Elt F) ((c : Thread nD τ).loc cc2_scratch1)) :
    (((c : Thread nD τ).loc cc2_scratch1) ↦{fullShare} f : sProp 𝕄) = bigSep Finset.univ fun s => pts8 (F := F) c s f := by
  have h := pointsTo_biUnion (Ix := Unit) (Name := ℕ) (U := UU) (Lvl := ℕ) (ℓ := (c : Thread nD τ).loc cc2_scratch1) (q := fullShare) (f := f) (Finset.univ : Finset (Fin 4)) (fun k => (slot8 k).view.set) disj8
  rw [all8] at h
  exact h

theorem split7 (c : Dev nD) : anyAt (F := F) c cc2_scratch0 ⊢ iprop((∃ f, pts7 (F := F) c 0 f) ∗ (∃ f, pts7 (F := F) c 1 f) ∗ ∃ f, pts7 (F := F) c 2 f) := by
  iintro ⟨%f, H⟩
  ihave H := (Entails.of_eq ((cut7 c f).trans (bigSep_fin3 _))) $$ H
  icases H with ⟨H0, H1, H2⟩
  isplitl [H0]; · iexists f; iexact H0
  isplitl [H1]; · iexists f; iexact H1
  iexists f; iexact H2

theorem join7 (c : Dev nD) : iprop((∃ f, pts7 (F := F) c 0 f) ∗ (∃ f, pts7 (F := F) c 1 f) ∗ ∃ f, pts7 (F := F) c 2 f) ⊢ anyAt (F := F) c cc2_scratch0 := by
  iintro H
  ihave H := (Entails.of_eq (bigSep_fin3 (fun k => iprop(∃ f, pts7 (F := F) c k f))).symm) $$ H
  ihave H := (BI.bigSep_exists_pi (Finset.univ : Finset (Fin 3)) (fun k f => pts7 (F := F) c k f)) $$ H
  icases H with ⟨%fs, H⟩
  ihave H := (pointsTo_biUnion_join (Finset.univ : Finset (Fin 3)) (fun k => (slot7 k).view.set) fs (fs 0) disj7) $$ H
  icases H with ⟨%g, -, H⟩
  iexists g
  ihave H := (Entails.of_eq (congrArg (fun S => ((c : Thread nD τ).loc cc2_scratch0) ↦[S]{fullShare} g) all7)) $$ H
  iexact H

theorem split8 (c : Dev nD) : anyAt (F := F) c cc2_scratch1
    ⊢ iprop((∃ f, pts8 (F := F) c c f) ∗ (∃ f, pts8 (F := F) c (bwd c 0) f) ∗ (∃ f, pts8 (F := F) c (bwd c 1) f) ∗ ∃ f, pts8 (F := F) c (bwd c 2) f) := by
  iintro ⟨%f, H⟩
  ihave H := (Entails.of_eq ((cut8 c f).trans (bigSep_peers c _))) $$ H
  icases H with ⟨H, H0, H1, H2⟩
  isplitl [H]; · iexists f; iexact H
  isplitl [H0]; · iexists f; iexact H0
  isplitl [H1]; · iexists f; iexact H1
  iexists f; iexact H2

theorem join8 (c : Dev nD) : iprop((∃ f, pts8 (F := F) c c f) ∗ (∃ f, pts8 (F := F) c (bwd c 0) f) ∗ (∃ f, pts8 (F := F) c (bwd c 1) f) ∗ ∃ f, pts8 (F := F) c (bwd c 2) f)
    ⊢ anyAt (F := F) c cc2_scratch1 := by
  iintro H
  ihave H := (Entails.of_eq (bigSep_peers c (fun s => iprop(∃ f, pts8 (F := F) c s f))).symm) $$ H
  ihave H := (BI.bigSep_exists_pi (Finset.univ : Finset (Fin 4)) (fun s f => pts8 (F := F) c s f)) $$ H
  icases H with ⟨%fs, H⟩
  ihave H := (pointsTo_biUnion_join (Finset.univ : Finset (Fin 4)) (fun k => (slot8 k).view.set) fs (fs 0) disj8) $$ H
  icases H with ⟨%g, -, H⟩
  iexists g
  ihave H := (Entails.of_eq (congrArg (fun S => ((c : Thread nD τ).loc cc2_scratch1) ↦[S]{fullShare} g) all8)) $$ H
  iexact H

end Cert.KernelIdealProof

end
-- ==== Proof.Regions.lean ====
/-
  The contents of the buffers between the items of the program, the proof data of the three calls, and the two calls that copy the
  operands as segments.
-/
module

public import proofs.«01_k».proof.Proof.Casts
public import proofs.«01_k».proof.Proof.Slots
public import proofs.«01_k».proof.Proof.Gen.KernelIdeal.Regions
public import Idealize.ShloMosaic.Lib.Pipeline.Frame
public import Idealize.ShloMosaic.Lib.Pipeline.RegionArrays

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (m : (ℓ : Loc nD τ sig) → Buf (Elt F) ℓ)

/-! ## The buffers' contents between items -/

/-- At launch; -/
def U0 (c : Dev nD) : Valuation τ sig (Elt F) := fun b => m (c, b)
/-- once the first operand is copied; -/
def U1 (c : Dev nD) : Valuation τ sig (Elt F) := Function.update (U0 m c) main_v1 (U0 m c main_arg0 : (⟨S1024x4096, .fp8e4m3⟩ : BufTy).Contents (Elt F))
/-- once the second is; -/
def U2 (c : Dev nD) : Valuation τ sig (Elt F) := Function.update (U1 m c) main_v2 (U1 m c main_arg1 : (⟨S4096x2048, .fp8e5m2⟩ : BufTy).Contents (Elt F))
/-- before the last call; -/
def U3 (c : Dev nD) : Valuation τ sig (Elt F) := StableHlo.after (hostOps2 c) (U2 m c)
/-- after it, the result at `f`. -/
def U4 (f : (⟨S4096x512, .f32⟩ : BufTy).Contents (Elt F)) (c : Dev nD) : Valuation τ sig (Elt F) := Function.update (U3 m c) main_v8 f

theorem U1_of (c : Dev nD) (r : Ref sig .tc) (h : r ≠ main_v1) : U1 m c r = U0 m c r := by
  unfold U1
  rw [Function.update_of_ne (StableHlo.devRef_ne_of_ne h : (Proc.devRef .tc r : DevRef τ sig) ≠ Proc.devRef .tc main_v1)]
theorem U2_of (c : Dev nD) (r : Ref sig .tc) (h : r ≠ main_v2) : U2 m c r = U1 m c r := by
  unfold U2
  rw [Function.update_of_ne (StableHlo.devRef_ne_of_ne h : (Proc.devRef .tc r : DevRef τ sig) ≠ Proc.devRef .tc main_v2)]
theorem U3_of (c : Dev nD) (r : Ref sig .tc) (h : r ∉ hostOps2_W) : U3 m c r = U2 m c r :=
  StableHlo.after_of_writes_sub (hostOps2 c) _ (hostOps2_writes c) h
theorem U4_of (f : (⟨S4096x512, .f32⟩ : BufTy).Contents (Elt F)) (c : Dev nD) (r : Ref sig .tc) (h : r ≠ main_v8) : U4 m f c r = U3 m c r := by
  unfold U4
  rw [Function.update_of_ne (StableHlo.devRef_ne_of_ne h : (Proc.devRef .tc r : DevRef τ sig) ≠ Proc.devRef .tc main_v8)]
theorem U1_self (c : Dev nD) : U1 m c main_v1 = (U0 m c main_arg0 : (⟨S1024x4096, .fp8e4m3⟩ : BufTy).Contents (Elt F)) := Function.update_self ..
theorem U2_self (c : Dev nD) : U2 m c main_v2 = (U1 m c main_arg1 : (⟨S4096x2048, .fp8e5m2⟩ : BufTy).Contents (Elt F)) := Function.update_self ..
theorem U1_v1 (c : Dev nD) : U1 m c main_v1 = (m (c, main_arg0) : (⟨S1024x4096, .fp8e4m3⟩ : BufTy).Contents (Elt F)) := Function.update_self ..
theorem U2_v2 (c : Dev nD) : U2 m c main_v2 = (m (c, main_arg1) : (⟨S4096x2048, .fp8e5m2⟩ : BufTy).Contents (Elt F)) :=
  (Function.update_self ..).trans (U1_of m c main_arg1 (by decide))
theorem U4_v8 (f : (⟨S4096x512, .f32⟩ : BufTy).Contents (Elt F)) (c : Dev nD) : U4 m f c main_v8 = f := Function.update_self ..

/-- The last call reads the operands' copies and the two scales as launched. -/
theorem U3_v1 (c : Dev nD) : U3 m c main_v1 = (m (c, main_arg0) : (⟨S1024x4096, .fp8e4m3⟩ : BufTy).Contents (Elt F)) :=
  (U3_of m c main_v1 (by decide)).trans ((U2_of m c main_v1 (by decide)).trans (U1_v1 m c))
theorem U3_v2 (c : Dev nD) : U3 m c main_v2 = (m (c, main_arg1) : (⟨S4096x2048, .fp8e5m2⟩ : BufTy).Contents (Elt F)) :=
  (U3_of m c main_v2 (by decide)).trans (U2_v2 m c)
theorem U3_arg (c : Dev nD) (r : Ref sig .tc) (h : r ∉ hostOps2_W) (h1 : r ≠ main_v1) (h2 : r ≠ main_v2) : U3 m c r = m (c, r) :=
  (U3_of m c r h).trans ((U2_of m c r h2).trans (U1_of m c r h1))

/-! ## The proof data of the three calls -/

/-- The tables: only the last call has one. -/
def aP (c : Dev nD) : (p : Fin 3) → (pcfgs (F := F) p).Adm := fun
  | 0 => cfg0.toPCfg_adm
  | 1 => cfg1.toPCfg_adm
  | 2 => tab c
  | ⟨_ + 3, h⟩ => absurd h (Nat.not_lt.2 (Nat.le_add_left _ _))

def rdatsP : (p : Fin 3) → (c : Dev nD) → RDat τ (Elt F) Unit ℕ UU ℕ (Pipeline.pinD (pcfgs (F := F)) aP c p) c := fun
  | 0 => fun c => (dat0 (U0 m) c).toR
  | 1 => fun c => (dat1 (U1 m) c).toR
  | 2 => fun c => (dat2 (U3 m) c).toRRel fgt2 (RlW (U3 m) c)
  | ⟨_ + 3, h⟩ => absurd h (Nat.not_lt.2 (Nat.le_add_left _ _))

theorem phinj : Function.Injective (Pipeline.PerCore.cellOf (nD := nD) (τ := τ) (Pipeline.pinD (pcfgs (F := F)) aP)) :=
  Pipeline.PerCore.cellOf_injective _
    (fun _ => fun
      | 0 => Pipeline.specSemsDistinct_of_nodup _ (semsDistinct 0)
      | 1 => Pipeline.specSemsDistinct_of_nodup _ (semsDistinct 1)
      | 2 => Pipeline.specSemsDistinct_of_nodup _ (semsDistinct 2)
      | ⟨_ + 3, h⟩ => absurd h (Nat.not_lt.2 (Nat.le_add_left _ _)))
    fun _ p p' h => Pipeline.specSemsDisjoint_of_disjoint _ _ (by
      have hx : ∀ p p' : Fin 3, p ≠ p' → (semTab p).Disjoint (semTab p') := fun p p' h _ hd hd' => List.forall_iff_forall_mem.1 (semsDisjoint p p' h) _ hd hd'
      have ht : ∀ (c : Dev nD) (p : Fin 3), Pipeline.specSems (Pipeline.pinD (pcfgs (F := F)) aP c p).spec = semTab p := fun _ => fun
        | 0 => rfl | 1 => rfl | 2 => rfl | ⟨_ + 3, h⟩ => absurd h (Nat.not_lt.2 (Nat.le_add_left _ _))
      rw [ht, ht]
      exact hx p p' h)

/-! ## The copying calls -/

/-- The buffers at `V`, something else riding along. -/
abbrev held (V : Dev nD → Valuation τ sig (Elt F)) (E : Dev nD → sProp 𝕄) (c : Dev nD) : sProp 𝕄 :=
  iprop(unscopedBufs c (fun b => V c b) ∗ (∃ W, owes (c : Thread nD τ) (O₀ c) W) ∗ E c)

theorem lv_stage (c : Dev nD) (s : DmaSem sig) (h : s.val < 17) : lv ((c : Thread nD τ), .dma s) () ≤ 0 := by
  dsimp only [lv]
  rw [if_neg (by omega)]

theorem stage_lt0 : ∀ (w : Fin 2) (s : Fin (spec0 w).nbuf), ((spec0 w).sem s).val < 17 := by decide
theorem stage_lt1 : ∀ (w : Fin 2) (s : Fin (spec1 w).nbuf), ((spec1 w).sem s).val < 17 := by decide
theorem stage_lt2 : ∀ (w : Fin 5) (s : Fin (spec2 w).nbuf), ((spec2 w).sem s).val < 17 := by decide

theorem hwaits0 (c : Dev nD) : (levAts L lv : sProp 𝕄) ⊢ Pipeline.PerCore.RDat.cellsWaits (Pipeline.pinD (pcfgs (F := F)) aP) (rdatsP m) () 0 c :=
  Pipeline.PerCore.RDat.cellsWaits_intro _ _ _ _ _ fun w s _ =>
    mayWait_above c _ 0 (lv_stage c _ (stage_lt0 w s)) (O₀ c) (above_O₀ c)
theorem hwaits1 (c : Dev nD) : (levAts L lv : sProp 𝕄) ⊢ Pipeline.PerCore.RDat.cellsWaits (Pipeline.pinD (pcfgs (F := F)) aP) (rdatsP m) () 1 c :=
  Pipeline.PerCore.RDat.cellsWaits_intro _ _ _ _ _ fun w s _ =>
    mayWait_above c _ 0 (lv_stage c _ (stage_lt1 w s)) (O₀ c) (above_O₀ c)

theorem above_owed (c : Dev nD) : ∀ n, Above 0 (owedAt c n)
  | 0 => above_O₀ c
  | 1 => (above_T1 c).mono (Nat.zero_le _)
  | 2 => (above_T2 c).mono (Nat.zero_le _)
  | _ + 3 => above_zero 0
theorem hwaits2 (c : Dev nD) : (levAts L lv : sProp 𝕄) ⊢ Pipeline.PerCore.RDat.cellsWaits (Pipeline.pinD (pcfgs (F := F)) aP) (rdatsP m) () 2 c :=
  Pipeline.PerCore.RDat.cellsWaits_intro _ _ _ _ _ fun w s t =>
    mayWait_above c _ 0 (lv_stage c _ (stage_lt2 w s)) (owedAt c t.val) (above_owed c t.val)

theorem entry0 (E : Dev nD → sProp 𝕄) (c : Dev nD) :
    (held (U0 m) E c : sProp 𝕄) ⊢ iprop((dat0 (U0 m) c).arrays (dat0 (U0 m) c).A ∗ (dat0 (U0 m) c).owesAt () 0 ∗ Pipeline.unscopedRest spec0 c (fun b => U0 m c b) ∗ E c) := by
  have h : (unscopedBufs c (fun b => U0 m c b) : sProp 𝕄) ⊢ iprop((dat0 (U0 m) c).arrays (dat0 (U0 m) c).A ∗ Pipeline.unscopedRest spec0 c (fun b => U0 m c b)) :=
    Pipeline.PerCore.RDat.arrays_of_unscopedBufs (pcfgs (F := F)) aP (rdatsP m) (p := 0) winFacts0 arr_whole0 c (fun w => by fin_cases w <;> rfl) (fun b => U0 m c b) (fun _ => rfl)
  unfold held
  iintro ⟨Hb, HO, HE⟩
  ihave Hb := h $$ Hb
  icases Hb with ⟨Ha, Hr⟩
  isplitl [Ha]; · iexact Ha
  isplitl [HO]; · iapply (owes_in (dat0 (U0 m) c) 0 (O₀ c) rfl rfl); iexact HO
  isplitl [Hr]; · iexact Hr
  iexact HE

theorem rest0 (c : Dev nD) : (Pipeline.unscopedRest spec0 c (fun b => U0 m c b) : sProp 𝕄) = Pipeline.unscopedRest spec0 c (fun b => U1 m c b) := by
  unfold Pipeline.unscopedRest
  refine bigSep_congr fun b hb => ?_
  have hne : b ≠ main_v1 := fun e => (Finset.mem_sdiff.mp hb).2 (e ▸ Finset.mem_image.mpr ⟨1, Finset.mem_univ _, rfl⟩)
  exact congrArg (fun f => (((c : Thread nD τ).loc b) ↦{fullShare} f : sProp 𝕄)) (U1_of m c b hne).symm

theorem exit0 (E : Dev nD → sProp 𝕄) (c : Dev nD) :
    iprop((dat0 (U0 m) c).toR.arraysAt cfg0.N ∗ (dat0 (U0 m) c).owesAt () (Fin.last cfg0.N) ∗ Pipeline.unscopedRest spec0 c (fun b => U0 m c b) ∗ E c)
      ⊢ (held (U1 m) E c : sProp 𝕄) := by
  have hs := Pipeline.PerCore.unscopedBufs_split (Ix := Unit) (Name := ℕ) (U := UU) (Lvl := ℕ) (Pipeline.pinD (pcfgs (F := F)) aP) 0 c winFacts0.arr_unscoped winFacts0.arr_inj (fun b => U1 m c b)
  have ha := Pipeline.PerCore.RDat.arrays_eq (pcfgs (F := F)) aP (rdatsP m) 0 c arr_whole0 (fun w => by fin_cases w <;> rfl) ((dat0 (U0 m) c).arrAt · cfg0.N)
  have h : (dat0 (U0 m) c).arrays ((dat0 (U0 m) c).arrAt · cfg0.N)
      ⊢ (bigSep Finset.univ fun w => (((c : Thread nD τ).loc (Pipeline.arrRef spec0 w)) ↦{fullShare} U1 m c (Pipeline.arrRef spec0 w)) : sProp 𝕄) := by
    refine (Entails.of_eq ha).trans (Entails.of_eq (bigSep_congr fun w _ => ?_))
    fin_cases w
    · exact congrArg (fun f => (((c : Thread nD τ).loc main_arg0) ↦{fullShare} f : sProp 𝕄)) (((dat0 (U0 m) c).arrAt_in (w := 0) rfl _).trans (U1_of m c main_arg0 (by decide)).symm)
    · exact congrArg (fun f => (((c : Thread nD τ).loc main_v1) ↦{fullShare} f : sProp 𝕄)) ((arr0 (U0 m) c).trans (U1_self m c).symm)
  rw [(dat0 (U0 m) c).toR_arraysAt_eq, rest0]
  unfold held
  iintro ⟨Ha, HO, Hr, HE⟩
  isplitl [Ha Hr]
  · iapply (Entails.of_eq hs.symm)
    isplitl [Ha]; · iapply h; iexact Ha
    iexact Hr
  isplitl [HO]; · iapply (owes_out (dat0 (U0 m) c) (Fin.last cfg0.N) (O₀ c) rfl); iexact HO
  iexact HE

/-- The call as a segment. -/
def region0 (E : Dev nD → sProp 𝕄) : Pipeline.PerCore.RDat.RegionSeg (pcfgs (F := F)) aP (rdatsP m) () defs₀ 𝒱₀ L lv 0 where
  win := winFacts0.to₀
  block_pos := block_pos0
  stage_whole := stage_whole0
  K := PEmpty
  osem := fun k => k.elim
  ho := Pipeline.OwnSemFacts.none _
  hbody c := (body0 (U0 m) c).toR
  hwaits := hwaits0 m
  pre := held (U0 m) E
  post := held (U1 m) E
  X _ := iprop(emp)
  Y _ := iprop(emp)
  Z c := iprop(Pipeline.unscopedRest spec0 c (fun b => U0 m c b) ∗ E c)
  hentry c := by
    have h : (held (U0 m) E c : sProp 𝕄) ⊢ iprop((rdatsP m 0 c).arrays (rdatsP m 0 c).A ∗ (rdatsP m 0 c).owesAt () 0 ∗ Pipeline.unscopedRest spec0 c (fun b => U0 m c b) ∗ E c) := entry0 m E c
    have hp : (iprop(emp) : sProp 𝕄) ⊢ Pipeline.prefHeld (pcfgs (F := F) 0).pre c (fun _ => fullShare) (aP c 0).1 := by
      exact Entails.of_eq (Pipeline.prefHeld_of_none _ rfl c _ _).symm
    iintro ⟨H, -, -⟩
    ihave H := h $$ H
    icases H with ⟨Ha, HO, Hr, HE⟩
    imodintro
    isplitl [Ha]; · iexact Ha
    isplitr; · iapply hp; iempintro
    isplitl [HO]; · iexact HO
    isplitr; · iempintro
    isplitl [Hr]; · iexact Hr
    iexact HE
  hin c := by
    rw [show (rdatsP m 0 c).Φ 0 = Pipeline.scopedRest spec0 c from rfl]
    iintro ⟨-, -, H⟩
    iexact H
  hout c := by
    rw [show (rdatsP m 0 c).Φ (Fin.last (Pipeline.pinD (pcfgs (F := F)) aP c 0).N) = Pipeline.scopedRest spec0 c from rfl, Pipeline.ownSems0_none]
    iintro H
    isplitr; · iempintro
    isplitr; · iempintro
    iexact H
  hexit c := by
    have h : iprop((rdatsP m 0 c).arraysAt (Pipeline.pinD (pcfgs (F := F)) aP c 0).N ∗ (rdatsP m 0 c).owesAt () (Fin.last (Pipeline.pinD (pcfgs (F := F)) aP c 0).N) ∗ Pipeline.unscopedRest spec0 c (fun b => U0 m c b) ∗ E c)
      ⊢ (held (U1 m) E c : sProp 𝕄) := exit0 m E c
    iintro ⟨Ha, HO, -, HZ⟩
    imodintro
    iapply h
    isplitl [Ha]; · iexact Ha
    isplitl [HO]; · iexact HO
    iexact HZ

theorem entry1 (E : Dev nD → sProp 𝕄) (c : Dev nD) :
    (held (U1 m) E c : sProp 𝕄) ⊢ iprop((dat1 (U1 m) c).arrays (dat1 (U1 m) c).A ∗ (dat1 (U1 m) c).owesAt () 0 ∗ Pipeline.unscopedRest spec1 c (fun b => U1 m c b) ∗ E c) := by
  have h : (unscopedBufs c (fun b => U1 m c b) : sProp 𝕄) ⊢ iprop((dat1 (U1 m) c).arrays (dat1 (U1 m) c).A ∗ Pipeline.unscopedRest spec1 c (fun b => U1 m c b)) :=
    Pipeline.PerCore.RDat.arrays_of_unscopedBufs (pcfgs (F := F)) aP (rdatsP m) (p := 1) winFacts1 arr_whole1 c (fun w => by fin_cases w <;> rfl) (fun b => U1 m c b) (fun _ => rfl)
  unfold held
  iintro ⟨Hb, HO, HE⟩
  ihave Hb := h $$ Hb
  icases Hb with ⟨Ha, Hr⟩
  isplitl [Ha]; · iexact Ha
  isplitl [HO]; · iapply (owes_in (dat1 (U1 m) c) 0 (O₀ c) rfl rfl); iexact HO
  isplitl [Hr]; · iexact Hr
  iexact HE

theorem rest1 (c : Dev nD) : (Pipeline.unscopedRest spec1 c (fun b => U1 m c b) : sProp 𝕄) = Pipeline.unscopedRest spec1 c (fun b => U2 m c b) := by
  unfold Pipeline.unscopedRest
  refine bigSep_congr fun b hb => ?_
  have hne : b ≠ main_v2 := fun e => (Finset.mem_sdiff.mp hb).2 (e ▸ Finset.mem_image.mpr ⟨1, Finset.mem_univ _, rfl⟩)
  exact congrArg (fun f => (((c : Thread nD τ).loc b) ↦{fullShare} f : sProp 𝕄)) (U2_of m c b hne).symm

theorem exit1 (E : Dev nD → sProp 𝕄) (c : Dev nD) :
    iprop((dat1 (U1 m) c).toR.arraysAt cfg1.N ∗ (dat1 (U1 m) c).owesAt () (Fin.last cfg1.N) ∗ Pipeline.unscopedRest spec1 c (fun b => U1 m c b) ∗ E c)
      ⊢ (held (U2 m) E c : sProp 𝕄) := by
  have hs := Pipeline.PerCore.unscopedBufs_split (Ix := Unit) (Name := ℕ) (U := UU) (Lvl := ℕ) (Pipeline.pinD (pcfgs (F := F)) aP) 1 c winFacts1.arr_unscoped winFacts1.arr_inj (fun b => U2 m c b)
  have ha := Pipeline.PerCore.RDat.arrays_eq (pcfgs (F := F)) aP (rdatsP m) 1 c arr_whole1 (fun w => by fin_cases w <;> rfl) ((dat1 (U1 m) c).arrAt · cfg1.N)
  have h : (dat1 (U1 m) c).arrays ((dat1 (U1 m) c).arrAt · cfg1.N)
      ⊢ (bigSep Finset.univ fun w => (((c : Thread nD τ).loc (Pipeline.arrRef spec1 w)) ↦{fullShare} U2 m c (Pipeline.arrRef spec1 w)) : sProp 𝕄) := by
    refine (Entails.of_eq ha).trans (Entails.of_eq (bigSep_congr fun w _ => ?_))
    fin_cases w
    · exact congrArg (fun f => (((c : Thread nD τ).loc main_arg1) ↦{fullShare} f : sProp 𝕄)) (((dat1 (U1 m) c).arrAt_in (w := 0) rfl _).trans (U2_of m c main_arg1 (by decide)).symm)
    · exact congrArg (fun f => (((c : Thread nD τ).loc main_v2) ↦{fullShare} f : sProp 𝕄)) ((arr1 (U1 m) c).trans (U2_self m c).symm)
  rw [(dat1 (U1 m) c).toR_arraysAt_eq, rest1]
  unfold held
  iintro ⟨Ha, HO, Hr, HE⟩
  isplitl [Ha Hr]
  · iapply (Entails.of_eq hs.symm)
    isplitl [Ha]; · iapply h; iexact Ha
    iexact Hr
  isplitl [HO]; · iapply (owes_out (dat1 (U1 m) c) (Fin.last cfg1.N) (O₀ c) rfl); iexact HO
  iexact HE

/-- The call as a segment. -/
def region1 (E : Dev nD → sProp 𝕄) : Pipeline.PerCore.RDat.RegionSeg (pcfgs (F := F)) aP (rdatsP m) () defs₀ 𝒱₀ L lv 1 where
  win := winFacts1.to₀
  block_pos := block_pos1
  stage_whole := stage_whole1
  K := PEmpty
  osem := fun k => k.elim
  ho := Pipeline.OwnSemFacts.none _
  hbody c := (body1 (U1 m) c).toR
  hwaits := hwaits1 m
  pre := held (U1 m) E
  post := held (U2 m) E
  X _ := iprop(emp)
  Y _ := iprop(emp)
  Z c := iprop(Pipeline.unscopedRest spec1 c (fun b => U1 m c b) ∗ E c)
  hentry c := by
    have h : (held (U1 m) E c : sProp 𝕄) ⊢ iprop((rdatsP m 1 c).arrays (rdatsP m 1 c).A ∗ (rdatsP m 1 c).owesAt () 0 ∗ Pipeline.unscopedRest spec1 c (fun b => U1 m c b) ∗ E c) := entry1 m E c
    have hp : (iprop(emp) : sProp 𝕄) ⊢ Pipeline.prefHeld (pcfgs (F := F) 1).pre c (fun _ => fullShare) (aP c 1).1 := by
      exact Entails.of_eq (Pipeline.prefHeld_of_none _ rfl c _ _).symm
    iintro ⟨H, -, -⟩
    ihave H := h $$ H
    icases H with ⟨Ha, HO, Hr, HE⟩
    imodintro
    isplitl [Ha]; · iexact Ha
    isplitr; · iapply hp; iempintro
    isplitl [HO]; · iexact HO
    isplitr; · iempintro
    isplitl [Hr]; · iexact Hr
    iexact HE
  hin c := by
    rw [show (rdatsP m 1 c).Φ 0 = Pipeline.scopedRest spec1 c from rfl]
    iintro ⟨-, -, H⟩
    iexact H
  hout c := by
    rw [show (rdatsP m 1 c).Φ (Fin.last (Pipeline.pinD (pcfgs (F := F)) aP c 1).N) = Pipeline.scopedRest spec1 c from rfl, Pipeline.ownSems0_none]
    iintro H
    isplitr; · iempintro
    isplitr; · iempintro
    iexact H
  hexit c := by
    have h : iprop((rdatsP m 1 c).arraysAt (Pipeline.pinD (pcfgs (F := F)) aP c 1).N ∗ (rdatsP m 1 c).owesAt () (Fin.last (Pipeline.pinD (pcfgs (F := F)) aP c 1).N) ∗ Pipeline.unscopedRest spec1 c (fun b => U1 m c b) ∗ E c)
      ⊢ (held (U2 m) E c : sProp 𝕄) := exit1 m E c
    iintro ⟨Ha, HO, -, HZ⟩
    imodintro
    iapply h
    isplitl [Ha]; · iexact Ha
    isplitl [HO]; · iexact HO
    iexact HZ

end Cert.KernelIdealProof

end
-- ==== Proof.Exchange.lean ====
/-
  The exchanging call as a segment: what a device brings to it, how the semaphores of the transfers are put under the protocol, and what
  is left afterwards.
-/
module

public import proofs.«01_k».proof.Proof.Regions
public import Idealize.ShloMosaic.Lib.Pipeline.ArrRel

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (m : (ℓ : Loc nD τ sig) → Buf (Elt F) ℓ)
/-! ## The prefetched table -/

theorem U3_v7 (c : Dev nD) : U3 m c main_v7 = (broadcastInDim (s := S_) S1 ![] bcast_S_S1 (Host.remui (Host.divui (constantI S_ 32 (Dev.word c)) (constantI S_ 32 1#32)) (constantI S_ 32 4#32)) : (⟨S1, .i32⟩ : BufTy).Contents (Elt F)) := by
  unfold U3
  rfl

theorem word_mod (c : Dev nD) : (Dev.word c / 1#32) % 4#32 = BitVec.ofNat 32 c.val := by revert c; decide

/-- The table holds the device's own position. -/
theorem U3_tab (c : Dev nD) : U3 m c main_v7 = tabC (F := F) c 0 := by
  rw [U3_v7]
  funext x
  show IntOp.remui .host (IntOp.divui .host (Dev.word c) 1#32) 4#32 = _
  unfold IntOp.remui IntOp.divui
  rw [if_neg (by decide), if_neg (by decide)]
  exact word_mod c

theorem table (c : Dev nD) : (Pipeline.prefHeld pre2 c (fun _ => fullShare) (fun k => U3 m c (pre2.ref k)) : sProp 𝕄)
    = Pipeline.prefHeld (pcfgs (F := F) 2).pre c (fun _ => fullShare) (aP (F := F) c 2).1 := by
  refine congrArg (Pipeline.prefHeld pre2 c (fun _ => fullShare)) ?_
  funext k
  fin_cases k
  exact U3_tab m c

/-! ## What a device brings -/

/-- The tokens of the transfers of distance `k`. -/
def tok (c : Dev nD) (k : Fin 3) : sProp 𝕄 :=
  iprop(dutyTok ER (barCell (fwd c k)) 0 k ∗ dutyTok ER (sndCell c k) 0 0 ∗ dutyTok ER (rcvCell (fwd c k) k) 0 0
    ∗ cred (tallyAt (rcvCell c k) () N) ∗ openTok ER (sndCell c k) ∗ openTok ER (rcvCell c k))
/-- The same once the two semaphores are under the protocol. -/
def stood (c : Dev nD) (k : Fin 3) : sProp 𝕄 :=
  iprop(dutyTok ER (barCell (fwd c k)) 0 k ∗ dutyTok ER (sndCell c k) 0 0 ∗ dutyTok ER (rcvCell (fwd c k) k) 0 0
    ∗ cred (tallyAt (rcvCell c k) () N) ∗ atPos ER (sndCell c k) 0 ∅ 0 ∗ reached ER (sndCell c k) 0
    ∗ atPos ER (rcvCell c k) 0 ∅ 0 ∗ reached ER (rcvCell c k) 0)
/-- What rides along from the launch: the invariants, the barrier's credit and position, the tokens. -/
def ring (c : Dev nD) : sProp 𝕄 :=
  iprop((∃ κ, Inv (sentOf (U3 m)) κ) ∗ (bigSep Finset.univ fun d : Dev nD => reached ER (barCell d) 0)
    ∗ cred (tallyAt (barCell c) () 3) ∗ atPos ER (barCell c) 0 ∅ 0 ∗ tok (F := F) c 0 ∗ tok (F := F) c 1 ∗ tok (F := F) c 2)
/-- The same when the call begins. -/
def ready (c : Dev nD) : sProp 𝕄 :=
  iprop(ctx (U3 m) ∗ (bigSep Finset.univ fun d : Dev nD => reached ER (barCell d) 0)
    ∗ cred (tallyAt (barCell c) () 3) ∗ atPos ER (barCell c) 0 ∅ 0 ∗ stood (F := F) c 0 ∗ stood (F := F) c 1 ∗ stood (F := F) c 2
    ∗ semVal ((c : Thread nD τ), .dma (rcvS c)) 0)

theorem opens (κ : GSem nD τ sig → ℕ) (c : Dev nD) (k : Fin 3) :
    iprop(Inv (sentOf (U3 m)) κ ∗ tok (F := F) c k ∗ semVal (sndCell c k) 0 ∗ semVal (rcvCell c k) 0) ⊢ |={Set.univ}=> stood (F := F) c k := by
  unfold tok stood
  iintro ⟨#HI, ⟨Hb, Hs, Hr, Hc, Hos, Hor⟩, Hvs, Hvr⟩
  ihave #HIs := (Inv_snd (sentOf (U3 m)) κ c k) $$ HI
  ihave #HIr := (Inv_rcv (sentOf (U3 m)) κ c k) $$ HI
  imod (cell_open ER (exRd (sentOf (U3 m))) (κ := κ (sndCell c k)) (g := sndCell c k) (Set.mem_univ _)) $$ [HIs Hos Hvs] with ⟨Has, Hrs⟩
  · isplitr; · iexact HIs
    isplitl [Hos]; · iexact Hos
    iexact Hvs
  imod (cell_open ER (exRd (sentOf (U3 m))) (κ := κ (rcvCell c k)) (g := rcvCell c k) (Set.mem_univ _)) $$ [HIr Hor Hvr] with ⟨Har, Hrr⟩
  · isplitr; · iexact HIr
    isplitl [Hor]; · iexact Hor
    iexact Hvr
  imodintro
  isplitl [Hb]; · iexact Hb
  isplitl [Hs]; · iexact Hs
  isplitl [Hr]; · iexact Hr
  isplitl [Hc]; · iexact Hc
  isplitl [Has]; · iexact Has
  isplitl [Hrs]; · iexact Hrs
  isplitl [Har]; · iexact Har
  iexact Hrr

/-- The semaphores of the transfers: three that count what has gone out, four that count what has come in. -/
def osem2 : Fin 3 ⊕ Fin 4 → SemLoc sig
  | .inl k => .dma (sndS k)
  | .inr s => .dma (rcvS s)
theorem own2 : Pipeline.OwnSemFacts spec2 osem2 := by decide

theorem sems2 (c : Dev nD) : (Pipeline.ownSems0 osem2 c : sProp 𝕄)
    = iprop((semVal (sndCell c 0) 0 ∗ semVal (sndCell c 1) 0 ∗ semVal (sndCell c 2) 0)
      ∗ semVal ((c : Thread nD τ), .dma (rcvS c)) 0 ∗ semVal (rcvCell c 0) 0 ∗ semVal (rcvCell c 1) 0 ∗ semVal (rcvCell c 2) 0) := by
  unfold Pipeline.ownSems0
  rw [bigSep_univ_sum, bigSep_fin3, bigSep_peers c]
  rfl

theorem open_all (c : Dev nD) : iprop(ring m c ∗ Pipeline.ownSems0 osem2 c ∗ levAts L lv) ⊢ |={Set.univ}=> ready m c := by
  rw [sems2]
  unfold ring ready ctx
  iintro ⟨⟨⟨%κ, #HI⟩, Hrb, Hc, Hat, H0, H1, H2⟩, ⟨⟨S0, S1, S2⟩, Ro, R0, R1, R2⟩, HL⟩
  imod (opens m κ c 0) $$ [HI H0 S0 R0] with H0
  · isplitr; · iexact HI
    isplitl [H0]; · iexact H0
    isplitl [S0]; · iexact S0
    iexact R0
  imod (opens m κ c 1) $$ [HI H1 S1 R1] with H1
  · isplitr; · iexact HI
    isplitl [H1]; · iexact H1
    isplitl [S1]; · iexact S1
    iexact R1
  imod (opens m κ c 2) $$ [HI H2 S2 R2] with H2
  · isplitr; · iexact HI
    isplitl [H2]; · iexact H2
    isplitl [S2]; · iexact S2
    iexact R2
  imodintro
  isplitl [HL]
  · isplitr; · iexists κ; iexact HI
    iexact HL
  isplitl [Hrb]; · iexact Hrb
  isplitl [Hc]; · iexact Hc
  isplitl [Hat]; · iexact Hat
  isplitl [H0]; · iexact H0
  isplitl [H1]; · iexact H1
  isplitl [H2]; · iexact H2
  iexact Ro

/-! ## Into the first point and out of the last -/

theorem hand_of (c : Dev nD) (k : Fin 3) :
    iprop(dutyTok ER (barCell (fwd c k)) 0 k ∗ (∃ f, pts8 (F := F) c (bwd c k.rev) f) ∗ reached ER (rcvCell c k.rev) 0 ∗ reached ER (barCell (fwd c k)) 0) ⊢ hand (F := F) c k := by
  unfold hand rcvCell
  rw [bwd_rev]

theorem armed_of (c : Dev nD) (k : Fin 3) :
    iprop(dutyTok ER (sndCell c k) 0 0 ∗ reached ER (sndCell c k) 0 ∗ dutyTok ER (rcvCell (fwd c k) k) 0 0 ∗ ∃ f, pts7 (F := F) c k f) ⊢ armed (F := F) c k := by
  unfold armed
  exact Entails.of_eq rfl

theorem await_of (c : Dev nD) (k : Fin 3) : iprop(cred (tallyAt (rcvCell c k) () N) ∗ atPos ER (rcvCell c k) 0 ∅ 0) ⊢ await (F := F) c k := by
  unfold await
  exact Entails.of_eq rfl

theorem begin_st (c : Dev nD) :
    iprop((bigSep Finset.univ fun d : Dev nD => reached ER (barCell d) 0)
      ∗ cred (tallyAt (barCell c) () 3) ∗ atPos ER (barCell c) 0 ∅ 0 ∗ stood (F := F) c 0 ∗ stood (F := F) c 1 ∗ stood (F := F) c 2
      ∗ semVal ((c : Thread nD τ), .dma (rcvS c)) 0 ∗ anyAt (F := F) c cc2_scratch0 ∗ anyAt (F := F) c cc2_scratch1) ⊢ st0 (F := F) c := by
  have hb : (bigSep Finset.univ fun d : Dev nD => reached ER (barCell d) 0 : sProp 𝕄) ⊢ iprop(reached ER (barCell c) 0 ∗ reached ER (barCell (fwd c 2)) 0 ∗ reached ER (barCell (fwd c 1)) 0 ∗ reached ER (barCell (fwd c 0)) 0) := by
    rw [bigSep_peers c]
    rw [show bwd c 0 = fwd c 2 by rw [← bwd_rev]; rfl, show bwd c 1 = fwd c 1 by rw [← bwd_rev]; rfl, show bwd c 2 = fwd c 0 by rw [← bwd_rev]; rfl]
  unfold stood st0 sndAt own
  iintro ⟨Hrb, Hc, Hat, ⟨B0, S0, R0, C0, AS0, rS0, AR0, #rR0⟩, ⟨B1, S1, R1, C1, AS1, rS1, AR1, #rR1⟩, ⟨B2, S2, R2, C2, AS2, rS2, AR2, #rR2⟩, Ho, H7, H8⟩
  ihave Hrb := hb $$ Hrb
  icases Hrb with ⟨-, b2, b1, b0⟩
  ihave H7 := (split7 c) $$ H7
  icases H7 with ⟨P0, P1, P2⟩
  ihave H8 := (split8 c) $$ H8
  icases H8 with ⟨Qo, Q0, Q1, Q2⟩
  isplitl [Hc]; · iexact Hc
  isplitl [Hat]; · iexact Hat
  isplitl [B0 Q2 b0]
  · iapply (hand_of c 0)
    isplitl [B0]; · iexact B0
    isplitl [Q2]; · iexact Q2
    isplitr; · iexact rR2
    iexact b0
  isplitl [B1 Q1 b1]
  · iapply (hand_of c 1)
    isplitl [B1]; · iexact B1
    isplitl [Q1]; · iexact Q1
    isplitr; · iexact rR1
    iexact b1
  isplitl [B2 Q0 b2]
  · iapply (hand_of c 2)
    isplitl [B2]; · iexact B2
    isplitl [Q0]; · iexact Q0
    isplitr; · iexact rR0
    iexact b2
  isplitl [S0 rS0 R0 P0]
  · iapply (armed_of c 0)
    isplitl [S0]; · iexact S0
    isplitl [rS0]; · iexact rS0
    isplitl [R0]; · iexact R0
    iexact P0
  isplitl [S1 rS1 R1 P1]
  · iapply (armed_of c 1)
    isplitl [S1]; · iexact S1
    isplitl [rS1]; · iexact rS1
    isplitl [R1]; · iexact R1
    iexact P1
  isplitl [S2 rS2 R2 P2]
  · iapply (armed_of c 2)
    isplitl [S2]; · iexact S2
    isplitl [rS2]; · iexact rS2
    isplitl [R2]; · iexact R2
    iexact P2
  isplitl [C0 AR0]
  · iapply (await_of c 0); isplitl [C0]; · iexact C0
    iexact AR0
  isplitl [C1 AR1]
  · iapply (await_of c 1); isplitl [C1]; · iexact C1
    iexact AR1
  isplitl [C2 AR2]
  · iapply (await_of c 2); isplitl [C2]; · iexact C2
    iexact AR2
  isplitl [AS0]; · iexact AS0
  isplitl [AS1]; · iexact AS1
  isplitl [AS2]; · iexact AS2
  isplitl [Qo]; · iexact Qo
  iexact Ho

theorem end_st (c : Dev nD) : st4 (F := F) c ⊢ iprop(semVal (barCell c) 0 ∗ Pipeline.ownSems0 osem2 c ∗ anyAt (F := F) c cc2_scratch0 ∗ anyAt (F := F) c cc2_scratch1) := by
  rw [sems2]
  unfold st4 got gone own
  iintro ⟨Hb, ⟨R0, Q0⟩, ⟨R1, Q1⟩, ⟨R2, Q2⟩, ⟨S0, P0⟩, ⟨S1, P1⟩, ⟨S2, P2⟩, Qo, Ro⟩
  isplitl [Hb]; · iexact Hb
  isplitl [R0 R1 R2 S0 S1 S2 Ro]
  · isplitl [S0 S1 S2]
    · isplitl [S0]; · iexact S0
      isplitl [S1]; · iexact S1
      iexact S2
    isplitl [Ro]; · iexact Ro
    isplitl [R0]; · iexact R0
    isplitl [R1]; · iexact R1
    iexact R2
  isplitl [P0 P1 P2]
  · iapply (join7 c)
    isplitl [P0]; · iexact P0
    isplitl [P1]; · iexact P1
    iexact P2
  iapply (join8 c)
  isplitl [Qo]; · iexact Qo
  isplitl [Q0]; · iexact Q0
  isplitl [Q1]; · iexact Q1
  iexact Q2

theorem scoped2 (c : Dev nD) : (Pipeline.scopedRest spec2 c : sProp 𝕄) ⊢ iprop(keep (F := F) c ∗ anyAt (F := F) c cc2_scratch0 ∗ anyAt (F := F) c cc2_scratch1) := by
  rw [scopedRest2_eq]
  unfold keep
  iintro ⟨H0, H1, H2, H3, H4, H5, H6, H7, H8, H9⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact H9
theorem scoped2' (c : Dev nD) : iprop(keep (F := F) c ∗ anyAt (F := F) c cc2_scratch0 ∗ anyAt (F := F) c cc2_scratch1) ⊢ (Pipeline.scopedRest spec2 c : sProp 𝕄) := by
  rw [scopedRest2_eq]
  unfold keep
  iintro ⟨⟨H0, H1, H2, H3, H4, H5, H6, H7⟩, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The segment -/

/-- The two operands of the program, which are no window of this call. -/
def args01 (c : Dev nD) : sProp 𝕄 :=
  iprop((((c : Thread nD τ).loc main_arg0) ↦{fullShare} m (c, main_arg0)) ∗ (((c : Thread nD τ).loc main_arg1) ↦{fullShare} m (c, main_arg1)))
/-- At the end: the arguments as at launch, the result as the relation says, the barrier's semaphore at zero. -/
def fin (c : Dev nD) : sProp 𝕄 :=
  iprop(∃ f : (⟨S4096x512, .f32⟩ : BufTy).Contents (Elt F), ⌜Rl2 (U3 m) c 3 f⌝ ∗ args01 m c
    ∗ (((c : Thread nD τ).loc main_arg2) ↦{fullShare} m (c, main_arg2)) ∗ (((c : Thread nD τ).loc main_arg3) ↦{fullShare} m (c, main_arg3))
    ∗ (((c : Thread nD τ).loc main_v8) ↦{fullShare} f) ∗ semVal (barCell c) 0)

theorem entry2 (c : Dev nD) :
    (held (U3 m) (ring m) c : sProp 𝕄) ⊢ iprop((dat2 (U3 m) c).arrays (dat2 (U3 m) c).A
      ∗ Pipeline.prefHeld (pcfgs (F := F) 2).pre c (fun _ => fullShare) (aP (F := F) c 2).1
      ∗ (dat2 (U3 m) c).owesAt () 0 ∗ ring m c ∗ args01 m c) := by
  have h : (unscopedBufs c (fun b => U3 m c b) : sProp 𝕄) ⊢ iprop((dat2 (U3 m) c).arrays (dat2 (U3 m) c).A ∗ Pipeline.unscopedRest spec2 c (fun b => U3 m c b)) :=
    Pipeline.PerCore.RDat.arrays_of_unscopedBufs (pcfgs (F := F)) aP (rdatsP m) (p := 2) winFacts2 arr_whole2 c (fun w => by fin_cases w <;> rfl) (fun b => U3 m c b) (fun _ => rfl)
  have hr : (Pipeline.unscopedRest spec2 c (fun b => U3 m c b) : sProp 𝕄) ⊢ iprop(Pipeline.prefHeld (pcfgs (F := F) 2).pre c (fun _ => fullShare) (aP (F := F) c 2).1 ∗ args01 m c) := by
    rw [Pipeline.unscopedRest_split preFacts2, table, unscopedRestP2_eq]
    unfold args01
    rw [U3_arg m c main_arg0 (by decide) (by decide) (by decide), U3_arg m c main_arg1 (by decide) (by decide) (by decide)]
    iintro ⟨Hp, H0, H1, -⟩
    isplitl [Hp]; · iexact Hp
    isplitl [H0]; · iexact H0
    iexact H1
  unfold held
  iintro ⟨Hb, HO, HE⟩
  ihave Hb := h $$ Hb
  icases Hb with ⟨Ha, Hr⟩
  ihave Hr := hr $$ Hr
  icases Hr with ⟨Hp, Hz⟩
  isplitl [Ha]; · iexact Ha
  isplitl [Hp]; · iexact Hp
  isplitl [HO]; · iapply (owes_in (dat2 (U3 m) c) 0 (O₀ c) rfl rfl); iexact HO
  isplitl [HE]; · iexact HE
  iexact Hz

/-- The result is written back once, whole, after the last point. -/
theorem whole4 (c : Dev nD) : ((cfgC (F := F) c).win 4).WholeAt t2_3 := by
  refine ⟨(flush4 c t2_3).trans (by decide), fun t h => ?_, fun a => ?_⟩
  · have h3 : t.val = 3 := of_decide_eq_true ((flush4 (F := F) c t).symm.trans h)
    exact Fin.ext h3
  · fin_cases a <;> exact ⟨rfl, rfl⟩

/-- What the result holds at the end. -/
theorem result (c : Dev nD) (G : (⟨S4096x512, .f32⟩ : BufTy).Contents (Elt F))
    (h : ((dat2 (U3 m) c).toRRel fgt2 (RlW (U3 m) c)).ArrAt 4 (cfgC (F := F) c).N G) : Rl2 (U3 m) c 3 G := by
  obtain ⟨X, hX, hG⟩ := RDat.ArrAt.emb_eq_of_wholeAt h (whole4 c)
  have hr : Rl2 (U3 m) c 3 X := (dat2 (U3 m) c).toRRel_leaves (w := 4) rfl hX
  have he : G = X := funext fun j => hG j
  rw [he]
  exact hr

theorem bigSep_fin5 (P : Fin 5 → sProp 𝕄) : bigSep Finset.univ P = iprop(P 0 ∗ P 1 ∗ P 2 ∗ P 3 ∗ P 4) := by
  rw [bigSep_univ_eq_bigSepL [0, 1, 2, 3, 4] (by decide) (by decide)]
  rfl

theorem exit2 (c : Dev nD) :
    iprop(((dat2 (U3 m) c).toRRel fgt2 (RlW (U3 m) c)).arraysAt (cfgC (F := F) c).N ∗ args01 m c ∗ semVal (barCell c) 0) ⊢ fin m c := by
  have hin (w : Fin 5) (hw : ((cfgC (F := F) c).win w).isOut = false) (G) (h : ((dat2 (U3 m) c).toRRel fgt2 (RlW (U3 m) c)).ArrAt w (cfgC (F := F) c).N G) :
      G = U3 m c (Pipeline.arrRef spec2 w) := by
    exact (congrFun (((dat2 (U3 m) c).toRRel fgt2 (RlW (U3 m) c)).ArrAt_in w hw (cfgC (F := F) c).N) G).mp h
  unfold RDat.arraysAt fin
  refine (sep_mono_left (Entails.of_eq (bigSep_fin5 _))).trans ?_
  iintro ⟨⟨-, -, ⟨%G2, %h2, H2⟩, ⟨%G3, %h3, H3⟩, ⟨%G4, %h4, H4⟩⟩, Ha, Hb⟩
  obtain rfl : G2 = m (c, main_arg2) := (hin 2 rfl G2 h2).trans (U3_arg m c main_arg2 (by decide) (by decide) (by decide))
  obtain rfl : G3 = m (c, main_arg3) := (hin 3 rfl G3 h3).trans (U3_arg m c main_arg3 (by decide) (by decide) (by decide))
  have t2 (G : Buf (Elt F) ((c : Thread nD τ).loc main_arg2)) : (((cfgC (F := F) c).win 2).arr.view.loc (c : Thread nD τ)
        ↦[((cfgC (F := F) c).win 2).arr.view.set]{((dat2 (U3 m) c).toRRel fgt2 (RlW (U3 m) c)).share 2} G : sProp 𝕄) ⊢ (((c : Thread nD τ).loc main_arg2) ↦{fullShare} G) :=
    Entails.of_eq (congrArg (fun S => (((c : Thread nD τ).loc main_arg2) ↦[S]{fullShare} G : sProp 𝕄)) (arr_whole2 2).set_eq_univ)
  have t3 (G : Buf (Elt F) ((c : Thread nD τ).loc main_arg3)) : (((cfgC (F := F) c).win 3).arr.view.loc (c : Thread nD τ)
        ↦[((cfgC (F := F) c).win 3).arr.view.set]{((dat2 (U3 m) c).toRRel fgt2 (RlW (U3 m) c)).share 3} G : sProp 𝕄) ⊢ (((c : Thread nD τ).loc main_arg3) ↦{fullShare} G) :=
    Entails.of_eq (congrArg (fun S => (((c : Thread nD τ).loc main_arg3) ↦[S]{fullShare} G : sProp 𝕄)) (arr_whole2 3).set_eq_univ)
  have t4 (G : Buf (Elt F) ((c : Thread nD τ).loc main_v8)) : (((cfgC (F := F) c).win 4).arr.view.loc (c : Thread nD τ)
        ↦[((cfgC (F := F) c).win 4).arr.view.set]{((dat2 (U3 m) c).toRRel fgt2 (RlW (U3 m) c)).share 4} G : sProp 𝕄) ⊢ (((c : Thread nD τ).loc main_v8) ↦{fullShare} G) :=
    Entails.of_eq (congrArg (fun S => (((c : Thread nD τ).loc main_v8) ↦[S]{fullShare} G : sProp 𝕄)) (arr_whole2 4).set_eq_univ)
  iexists G4
  isplitr; · ipureintro; exact result m c G4 h4
  isplitl [Ha]; · iexact Ha
  isplitl [H2]; · iapply (t2 _); iexact H2
  isplitl [H3]; · iapply (t3 _); iexact H3
  isplitl [H4]; · iapply (t4 _); iexact H4
  iexact Hb

theorem phi_last (c : Dev nD) : (dat2 (U3 m) c).Φ (Fin.last (cfgC (F := F) c).N) = iprop(ctx (U3 m) ∗ keep c ∗ st4 c) := by
  show iprop(ctx (U3 m) ∗ keep c ∗ stAt c grid2.N) = _
  rw [N_2]
  rfl
theorem owed_last (c : Dev nD) : (dat2 (U3 m) c).owed (Fin.last (cfgC (F := F) c).N) = 0 := by
  show owedAt c grid2.N = 0
  rw [N_2]
  rfl

theorem leave2 (c : Dev nD) : (dat2 (U3 m) c).Φ (Fin.last (cfgC (F := F) c).N)
    ⊢ iprop(semVal (barCell c) 0 ∗ Pipeline.ownSems0 osem2 c ∗ Pipeline.scopedRest spec2 c) := by
  rw [phi_last]
  iintro ⟨-, Hk, Hs⟩
  ihave Hs := (end_st c) $$ Hs
  icases Hs with ⟨Hb, Hs, H7, H8⟩
  isplitl [Hb]; · iexact Hb
  isplitl [Hs]; · iexact Hs
  iapply (scoped2' c)
  isplitl [Hk]; · iexact Hk
  isplitl [H7]; · iexact H7
  iexact H8

theorem arrays_out (c : Dev nD) : iprop((rdatsP m 2 c).arraysAt (Pipeline.pinD (pcfgs (F := F)) aP c 2).N ∗ args01 m c ∗ semVal (barCell c) 0) ⊢ fin m c := exit2 m c
theorem owes_last (c : Dev nD) : ((dat2 (U3 m) c).owesAt () (Fin.last (cfgC (F := F) c).N) : sProp 𝕄) ⊢ iprop(∃ W, owes (c : Thread nD τ) 0 W) := owes_out (dat2 (U3 m) c) (Fin.last (cfgC (F := F) c).N) 0 (owed_last m c)
theorem owes_last_rel (c : Dev nD) : (((dat2 (U3 m) c).toRRel fgt2 (RlW (U3 m) c)).owesAt () (Fin.last (cfgC (F := F) c).N) : sProp 𝕄) ⊢ iprop(∃ W, owes (c : Thread nD τ) 0 W) := owes_last m c
theorem owes_done (c : Dev nD) : ((rdatsP m 2 c).owesAt () (Fin.last (Pipeline.pinD (pcfgs (F := F)) aP c 2).N) : sProp 𝕄) ⊢ iprop(∃ W, owes (c : Thread nD τ) 0 W) := owes_last_rel m c

theorem close2 (c : Dev nD) : iprop((rdatsP m 2 c).arraysAt (Pipeline.pinD (pcfgs (F := F)) aP c 2).N ∗ (rdatsP m 2 c).owesAt () (Fin.last (Pipeline.pinD (pcfgs (F := F)) aP c 2).N) ∗ semVal (barCell c) 0 ∗ args01 m c)
    ⊢ |={Set.univ}=> iprop(fin m c ∗ ∃ W, owes (c : Thread nD τ) 0 W) := by
  iintro ⟨Ha, HO, HY, HZ⟩
  imodintro
  isplitl [Ha HY HZ]
  · iapply (arrays_out m c)
    isplitl [Ha]; · iexact Ha
    isplitl [HZ]; · iexact HZ
    iexact HY
  iapply (owes_done m c)
  iexact HO

/-- The exchanging call. -/
def region2 : Pipeline.PerCore.RDat.RegionSeg (pcfgs (F := F)) aP (rdatsP m) () defs₀ 𝒱₀ L lv 2 where
  win := winFacts2.to₀
  block_pos := block_pos2
  stage_whole := stage_whole2
  K := Fin 3 ⊕ Fin 4
  osem := osem2
  ho := own2
  hbody c := (body2 (U3 m) c).toRRel
  hwaits := hwaits2 m
  pre := held (U3 m) (ring m)
  post c := iprop(fin m c ∗ ∃ W, owes (c : Thread nD τ) 0 W)
  X c := ready m c
  Y c := semVal (barCell c) 0
  Z c := args01 m c
  hentry c := by
    have h : (held (U3 m) (ring m) c : sProp 𝕄) ⊢ iprop((rdatsP m 2 c).arrays (rdatsP m 2 c).A
      ∗ Pipeline.prefHeld (pcfgs (F := F) 2).pre c (fun _ => fullShare) (aP (F := F) c 2).1
      ∗ (rdatsP m 2 c).owesAt () 0 ∗ ring m c ∗ args01 m c) := entry2 m c
    iintro ⟨H, Hs, HL⟩
    ihave H := h $$ H
    icases H with ⟨Ha, Hp, HO, HE, Hz⟩
    imod (open_all m c) $$ [HE Hs HL] with HX
    · isplitl [HE]; · iexact HE
      isplitl [Hs]; · iexact Hs
      iexact HL
    imodintro
    isplitl [Ha]; · iexact Ha
    isplitl [Hp]; · iexact Hp
    isplitl [HO]; · iexact HO
    isplitl [HX]; · iexact HX
    iexact Hz
  hin c := by
    have h : (Pipeline.scopedRest (pcfgs (F := F) 2).spec c : sProp 𝕄) ⊢ iprop(keep (F := F) c ∗ anyAt (F := F) c cc2_scratch0 ∗ anyAt (F := F) c cc2_scratch1) := scoped2 c
    rw [show (rdatsP m 2 c).Φ 0 = iprop(ctx (U3 m) ∗ keep c ∗ st0 c) from rfl]
    unfold ready
    iintro ⟨⟨Hc, HX⟩, -, Hs⟩
    ihave Hs := h $$ Hs
    icases Hs with ⟨Hk, H7, H8⟩
    icases HX with ⟨Hr, Hb, Ha, H0, H1, H2, Ho⟩
    isplitl [Hc]; · iexact Hc
    isplitl [Hk]; · iexact Hk
    iapply (begin_st c)
    isplitl [Hr]; · iexact Hr
    isplitl [Hb]; · iexact Hb
    isplitl [Ha]; · iexact Ha
    isplitl [H0]; · iexact H0
    isplitl [H1]; · iexact H1
    isplitl [H2]; · iexact H2
    isplitl [Ho]; · iexact Ho
    isplitl [H7]; · iexact H7
    iexact H8
  hout c := leave2 m c
  hexit c := close2 m c

end Cert.KernelIdealProof

end
-- ==== Proof.Launch.lean ====
/-
  The launch and the run of the whole program: the protocol's cells and tokens are made and dealt, and @main is the chain of its items.
-/
module

public import proofs.«01_k».proof.Proof.Exchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UU ℕ

variable (m : (ℓ : Loc nD τ sig) → Buf (Elt F) ℓ)

/-! ## The cells and the tokens -/

theorem barCell_inj : Function.Injective barCell := fun c d h => congrArg (fun g : GSem nD τ sig => g.1.1) h

/-- The cells of the transfers. -/
def pair : (Dev nD × Fin 3) ⊕ (Dev nD × Fin 3) → GSem nD τ sig
  | .inl x => sndCell x.1 x.2
  | .inr x => rcvCell x.1 x.2

theorem snd_eq {x y : Dev nD × Fin 3} (h : sndCell x.1 x.2 = sndCell y.1 y.2) : x = y := by
  have h1 : x.1 = y.1 := congrArg (fun g : GSem nD τ sig => g.1.1) h
  have h2 : SemLoc.dma (sndS x.2) = SemLoc.dma (sndS y.2) := congrArg (fun g : GSem nD τ sig => g.2) h
  exact Prod.ext h1 ((sndS_inj _ _).mp (SemLoc.dma.inj h2))
theorem rcv_eq {x y : Dev nD × Fin 3} (h : rcvCell x.1 x.2 = rcvCell y.1 y.2) : x = y := by
  have h1 : x.1 = y.1 := congrArg (fun g : GSem nD τ sig => g.1.1) h
  have h2 : SemLoc.dma (rcvS (bwd x.1 x.2)) = SemLoc.dma (rcvS (bwd y.1 y.2)) := congrArg (fun g : GSem nD τ sig => g.2) h
  have h3 := (rcvS_inj _ _).mp (SemLoc.dma.inj h2)
  rw [h1] at h3
  exact Prod.ext h1 (bwd_inj _ _ _ h3)
theorem snd_ne_rcv (x y : Dev nD × Fin 3) : sndCell x.1 x.2 ≠ rcvCell y.1 y.2 := fun h =>
  rcvS_ne_sndS (bwd y.1 y.2) x.2 (SemLoc.dma.inj (congrArg (fun g : GSem nD τ sig => g.2) h)).symm
theorem reg_ne_dma (s : Sem sig) (d : DmaSem sig) : SemLoc.reg s ≠ SemLoc.dma d := nofun
theorem bar_ne_snd (c : Dev nD) (y : Dev nD × Fin 3) : barCell c ≠ sndCell y.1 y.2 := fun h =>
  reg_ne_dma _ _ (congrArg (fun g : GSem nD τ sig => g.2) h)
theorem bar_ne_rcv (c : Dev nD) (y : Dev nD × Fin 3) : barCell c ≠ rcvCell y.1 y.2 := fun h =>
  reg_ne_dma _ _ (congrArg (fun g : GSem nD τ sig => g.2) h)

theorem pair_inj : Function.Injective pair := by
  rintro (x | x) (y | y) h
  · exact congrArg Sum.inl (snd_eq h)
  · exact absurd h (snd_ne_rcv x y)
  · exact absurd h.symm (snd_ne_rcv y x)
  · exact congrArg Sum.inr (rcv_eq h)

/-- The duties. -/
def duty : (Dev nD × Fin 3) ⊕ (Dev nD × Fin 3) ⊕ (Dev nD × Fin 3) → GSem nD τ sig × ℕ × Fin 3
  | .inl x => (barCell x.1, 0, x.2)
  | .inr x => (pair x, 0, 0)

theorem duty_inj : Function.Injective duty := by
  rintro (x | x) (y | y) h
  · exact congrArg Sum.inl (Prod.ext (barCell_inj (congrArg Prod.fst h)) (congrArg (fun z => z.2.2) h))
  · have h1 : barCell x.1 = pair y := congrArg Prod.fst h
    rcases y with y | y
    · exact absurd h1 (bar_ne_snd x.1 y)
    · exact absurd h1 (bar_ne_rcv x.1 y)
  · have h1 : pair x = barCell y.1 := congrArg Prod.fst h
    rcases x with x | x
    · exact absurd h1.symm (bar_ne_snd y.1 x)
    · exact absurd h1.symm (bar_ne_rcv y.1 x)
  · exact congrArg Sum.inr (pair_inj (congrArg Prod.fst h))

def barCells : Finset (GSem nD τ sig) := Finset.univ.map ⟨barCell, barCell_inj⟩
def pairCells : Finset (GSem nD τ sig) := Finset.univ.map ⟨pair, pair_inj⟩
def duties : Finset (GSem nD τ sig × ℕ × Fin 3) := Finset.univ.map ⟨duty, duty_inj⟩

theorem cells_disj : Disjoint barCells pairCells := by
  rw [Finset.disjoint_left]
  intro g h1 h2
  obtain ⟨c, -, rfl⟩ := Finset.mem_map.mp h1
  obtain ⟨x, -, hx⟩ := Finset.mem_map.mp h2
  rcases x with x | x
  · exact bar_ne_snd c x hx.symm
  · exact bar_ne_rcv c x hx.symm

def uRing : URing := launchOf barCells pairCells duties
def u₀ : UU :=
  (initOf (Pipeline.PerCore.cells (Pipeline.pinD (pcfgs (F := F)) aP) phinj) (Pipeline.PerCore.launchToks (Pipeline.pinD (pcfgs (F := F)) aP) phinj), uRing)

/-- The protocol's part of the launch element, kept with device 0 until the first step. -/
def G (c : Dev nD) : sProp 𝕄 := if c = 0 then BI.own (ER uRing) else iprop(emp)

theorem G_intro : (BI.own (ER uRing) : sProp 𝕄) ⊢ bigSep Finset.univ G := by
  rw [bigSep_peers 0]
  unfold G
  rw [if_pos rfl, if_neg (bwd_ne 0 0), if_neg (bwd_ne 0 1), if_neg (bwd_ne 0 2)]
  iintro H
  isplitl [H]; · iexact H
  isplitr; · iempintro
  isplitr <;> iempintro

theorem G_elim : (bigSep Finset.univ G : sProp 𝕄) ⊢ BI.own (ER uRing) := by
  rw [bigSep_peers 0]
  unfold G
  rw [if_pos rfl]
  iintro ⟨H, -⟩
  iexact H

/-! ## Dealing -/

theorem bigSep_two {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- A token of each pair to the device that pays it. -/
def shift : Dev nD × Fin 3 ≃ Dev nD × Fin 3 where
  toFun x := (fwd x.1 x.2, x.2)
  invFun x := (bwd x.1 x.2, x.2)
  left_inv x := Prod.ext (bwd_fwd x.1 x.2) rfl
  right_inv x := Prod.ext (fwd_bwd x.1 x.2) rfl

/-- What the launch leaves with device `c`. -/
def dealt (c : Dev nD) (k : Fin 3) : sProp 𝕄 :=
  iprop(dutyTok ER (barCell (fwd c k)) 0 k ∗ dutyTok ER (sndCell c k) 0 0 ∗ dutyTok ER (rcvCell (fwd c k) k) 0 0
    ∗ openTok ER (sndCell c k) ∗ openTok ER (rcvCell c k))

theorem deal : iprop(bigSep pairCells (fun g => openTok ER g) ∗ bigSep duties (fun x => dutyTok ER x.1 x.2.1 x.2.2) : sProp 𝕄)
    ⊢ bigSep Finset.univ fun c : Dev nD => bigSep Finset.univ fun k : Fin 3 => dealt (F := F) c k := by
  rw [← bigSep_univ_prod (fun x : Dev nD × Fin 3 => dealt (F := F) x.1 x.2)]
  unfold dealt
  simp only [bigSep_sep']
  unfold pairCells duties
  rw [bigSep_map, bigSep_map, bigSep_two, bigSep_two, bigSep_two]
  have hb : (bigSep Finset.univ fun x : Dev nD × Fin 3 => dutyTok ER (barCell x.1) 0 x.2 : sProp 𝕄)
      ⊢ bigSep Finset.univ fun x : Dev nD × Fin 3 => dutyTok ER (barCell (fwd x.1 x.2)) 0 x.2 :=
    Entails.of_eq (bigSep_univ_equiv shift (fun x : Dev nD × Fin 3 => (dutyTok ER (barCell x.1) 0 x.2 : sProp 𝕄)))
  have hr : (bigSep Finset.univ fun x : Dev nD × Fin 3 => dutyTok ER (rcvCell x.1 x.2) 0 0 : sProp 𝕄)
      ⊢ bigSep Finset.univ fun x : Dev nD × Fin 3 => dutyTok ER (rcvCell (fwd x.1 x.2) x.2) 0 0 :=
    Entails.of_eq (bigSep_univ_equiv shift (fun x : Dev nD × Fin 3 => (dutyTok ER (rcvCell x.1 x.2) 0 0 : sProp 𝕄)))
  iintro ⟨⟨O1, O2⟩, D0, D1, D2⟩
  isplitl [D0]; · iapply hb; iexact D0
  isplitl [D1]; · iexact D1
  isplitl [D2]; · iapply hr; iexact D2
  isplitl [O1]; · iexact O1
  iexact O2

theorem invs (κ : GSem nD τ sig → ℕ) : (bigSep (barCells ∪ pairCells) (fun g => cellInv ER (exRd (sentOf (U3 m))) (κ g) g) : sProp 𝕄) ⊢ Inv (sentOf (U3 m)) κ := by
  rw [bigSep_union cells_disj]
  unfold barCells pairCells Inv
  rw [bigSep_map, bigSep_map, bigSep_two, bigSep_sep',
    ← bigSep_univ_prod (fun x : Dev nD × Fin 3 => iprop(cellInv ER (exRd (sentOf (U3 m))) (κ (sndCell x.1 x.2)) (sndCell x.1 x.2) ∗ cellInv ER (exRd (sentOf (U3 m))) (κ (rcvCell x.1 x.2)) (rcvCell x.1 x.2))),
    bigSep_sep']
  exact Entails.of_eq rfl

/-! ## The credits -/

theorem at_bar (d c : Dev nD) : O₀ d (barCell c) () = (if c = fwd d 2 then 1 else 0) + (if c = fwd d 1 then 1 else 0) + (if c = fwd d 0 then 1 else 0) := by
  have hr (k : Fin 3) : tallyAt (rcvCell (fwd d k) k) () N (barCell c) () = 0 := by
    rw [tallyAt_apply, if_neg fun h => bar_ne_rcv c (fwd d k, k) h.1]
  have hb (k : Fin 3) : tallyAt (barCell (fwd d k)) () 1 (barCell c) () = if c = fwd d k then 1 else 0 := by
    rw [tallyAt_apply]
    by_cases h : c = fwd d k
    · rw [if_pos h, if_pos ⟨congrArg barCell h, rfl⟩]
    · rw [if_neg h, if_neg fun e => h (barCell_inj e.1)]
  unfold O₀ B1 B2 T0 T1 T2
  simp only [Pi.add_apply, Finsupp.add_apply, hr, hb, Nat.zero_add]

theorem at_rcv (d c : Dev nD) (k : Fin 3) : O₀ d (rcvCell c k) () = N * ((if c = fwd d 2 ∧ k = 2 then 1 else 0) + (if c = fwd d 1 ∧ k = 1 then 1 else 0) + (if c = fwd d 0 ∧ k = 0 then 1 else 0)) := by
  have hb (j : Fin 3) : tallyAt (barCell (fwd d j)) () 1 (rcvCell c k) () = 0 := by
    rw [tallyAt_apply, if_neg fun h => bar_ne_rcv (fwd d j) (c, k) h.1.symm]
  have hr (j : Fin 3) : tallyAt (rcvCell (fwd d j) j) () N (rcvCell c k) () = N * if c = fwd d j ∧ k = j then 1 else 0 := by
    rw [tallyAt_apply]
    by_cases h : c = fwd d j ∧ k = j
    · obtain ⟨rfl, rfl⟩ := h
      rw [if_pos ⟨rfl, rfl⟩, if_pos ⟨rfl, rfl⟩, Nat.mul_one]
    · rw [if_neg h, if_neg fun e => h ?_, Nat.mul_zero]
      have := rcv_eq (x := (c, k)) (y := (fwd d j, j)) e.1
      exact ⟨congrArg Prod.fst this, congrArg Prod.snd this⟩
  unfold O₀ B1 B2 T0 T1 T2
  simp only [Pi.add_apply, Finsupp.add_apply, hr, hb, Nat.add_zero, Nat.mul_add]

theorem sum_bar : ∀ c : Dev nD, (∑ d : Dev nD, ((if c = fwd d 2 then 1 else 0) + (if c = fwd d 1 then 1 else 0) + (if c = fwd d 0 then 1 else 0))) = 3 := by decide
theorem sum_rcv : ∀ (c : Dev nD) (k : Fin 3), (∑ d : Dev nD, ((if c = fwd d 2 ∧ k = 2 then 1 else 0) + (if c = fwd d 1 ∧ k = 1 then 1 else 0) + (if c = fwd d 0 ∧ k = 0 then 1 else 0))) = 1 := by decide

theorem launch_bar (c : Dev nD) : tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => at_bar d c, sum_bar]
theorem launch_rcv (c : Dev nD) (k : Fin 3) : tallyOn (rcvCell c k) (launchCredit (Pipeline.owing O₀) 0 (rcvCell c k)) = (tallyAt (rcvCell c k) () N : CellTallies nD τ sig Unit) := by
  unfold tallyAt
  refine congrArg _ (Finsupp.ext fun u => ?_)
  cases u
  rw [Pipeline.launchCredit_owing, Finsupp.single_eq_same, Finset.sum_congr rfl fun d _ => at_rcv d c k, ← Finset.mul_sum, sum_rcv, Nat.mul_one]

/-- The four semaphores on which device `c` waits for its peers. -/
def waited (c : Dev nD) : Unit ⊕ Fin 3 ↪ SemLoc sig where
  toFun
    | .inl _ => .reg barS
    | .inr k => .dma (rcvS (bwd c k))
  inj' := by
    rintro (_ | k) (_ | j) h
    · rfl
    · exact absurd h (reg_ne_dma _ _)
    · exact absurd h.symm (reg_ne_dma _ _)
    · exact congrArg Sum.inr (bwd_inj c _ _ ((rcvS_inj _ _).mp (SemLoc.dma.inj h)))

theorem drop_mid (P Q R : sProp 𝕄) : iprop((P ∗ Q) ∗ R) ⊢ iprop(P ∗ R) := by
  iintro ⟨⟨HP, -⟩, HR⟩
  isplitl [HP]; · iexact HP
  iexact HR

theorem creds (c : Dev nD) : (Pipeline.launchCred O₀ c : sProp 𝕄)
    ⊢ iprop(cred (tallyAt (barCell c) () 3) ∗ cred (tallyAt (rcvCell c 0) () N) ∗ cred (tallyAt (rcvCell c 1) () N) ∗ cred (tallyAt (rcvCell c 2) () N)) := by
  unfold Pipeline.launchCred
  refine (bigSep_subset (Finset.subset_univ (Finset.univ.map (waited c)))).trans ?_
  rw [bigSep_map, bigSep_two, bigSep_univ_at _ (), bigSep_fin3, ← launch_bar c, ← launch_rcv c 0, ← launch_rcv c 1, ← launch_rcv c 2]
  exact drop_mid _ _ _

/-! ## The first thread states -/

theorem sems_bar (c : Dev nD) : (unscopedSems0 c : sProp 𝕄) = semVal (barCell c) 0 := by
  unfold unscopedSems0
  rw [bigSep_eq_bigSepL_of_eq [SemLoc.reg barS] (by decide) (by decide)]
  rfl

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (ρ : Dev nD → PrngReg)

/-- What every device may know. -/
def known : sProp 𝕄 := iprop((∃ κ, Inv (sentOf (U3 m)) κ) ∗ bigSep Finset.univ fun d : Dev nD => reached ER (barCell d) 0)
instance : BI.Persistent (known m : sProp 𝕄) := by unfold known; infer_instance

/-- The protocol set up. -/
theorem set_up : iprop((bigSep Finset.univ fun c : Dev nD => unscopedSems0 c) ∗ bigSep Finset.univ G : sProp 𝕄)
    ⊢ |={Set.univ}=> iprop(known m ∗ (bigSep Finset.univ fun c : Dev nD => atPos ER (barCell c) 0 ∅ 0)
      ∗ bigSep Finset.univ fun c : Dev nD => bigSep Finset.univ fun k : Fin 3 => dealt (F := F) c k) := by
  have hs : (bigSep Finset.univ fun c : Dev nD => unscopedSems0 c : sProp 𝕄) ⊢ bigSep barCells (fun g => semVal g 0) := by
    unfold barCells
    rw [bigSep_map]
    exact Entails.of_eq (bigSep_congr fun c _ => sems_bar c)
  have hr : (bigSep barCells (fun g => reached ER g 0) : sProp 𝕄) ⊢ bigSep Finset.univ fun d : Dev nD => reached ER (barCell d) 0 := by
    unfold barCells
    rw [bigSep_map]
    exact Entails.of_eq rfl
  have ha : (bigSep barCells (fun g => atPos ER g 0 ∅ 0) : sProp 𝕄) ⊢ bigSep Finset.univ fun d : Dev nD => atPos ER (barCell d) 0 ∅ 0 := by
    unfold barCells
    rw [bigSep_map]
    exact Entails.of_eq rfl
  iintro ⟨Hs, HG⟩
  ihave Hs := hs $$ Hs
  ihave HG := G_elim $$ HG
  imod (fund_launch ER (exRd (sentOf (U3 m))) cells_disj (fun _ _ => not_false) duties ∅) $$ [Hs HG] with ⟨%κ, -, HI, HR, HA, HO, HT⟩
  · isplitl [Hs]; · iexact Hs
    unfold uRing
    iexact HG
  imodintro
  isplitl [HI HR]
  · unfold known
    isplitl [HI]
    · iexists κ
      iapply (invs m κ)
      iexact HI
    iapply hr
    iexact HR
  isplitl [HA]; · iapply ha; iexact HA
  iapply deal
  isplitl [HO]; · iexact HO
  iexact HT

/-- One device's first state, from what is known and what it is dealt. -/
theorem first (c : Dev nD) : iprop(known m ∗ (unscopedBufs c (fun b => m ((c : Thread nD τ).loc b)) ∗ owes (c : Thread nD τ) (O₀ c) ∅ ∗ Pipeline.launchCred O₀ c)
    ∗ atPos ER (barCell c) 0 ∅ 0 ∗ bigSep Finset.univ fun k : Fin 3 => dealt (F := F) c k) ⊢ held (U0 m) (ring m) c := by
  have hc := creds (F := F) c
  unfold held known ring tok
  rw [bigSep_fin3]
  unfold dealt
  iintro ⟨⟨HI, HR⟩, ⟨Hu, HO, Hc⟩, HA, ⟨B0, S0, R0, OS0, OR0⟩, ⟨B1, S1, R1, OS1, OR1⟩, B2, S2, R2, OS2, OR2⟩
  ihave Hc := hc $$ Hc
  icases Hc with ⟨Hb, C0, C1, C2⟩
  isplitl [Hu]; · iexact Hu
  isplitl [HO]; · iexists ∅; iexact HO
  isplitl [HI]; · iexact HI
  isplitl [HR]; · iexact HR
  isplitl [Hb]; · iexact Hb
  isplitl [HA]; · iexact HA
  isplitl [B0 S0 R0 C0 OS0 OR0]
  · isplitl [B0]; · iexact B0
    isplitl [S0]; · iexact S0
    isplitl [R0]; · iexact R0
    isplitl [C0]; · iexact C0
    isplitl [OS0]; · iexact OS0
    iexact OR0
  isplitl [B1 S1 R1 C1 OS1 OR1]
  · isplitl [B1]; · iexact B1
    isplitl [S1]; · iexact S1
    isplitl [R1]; · iexact R1
    isplitl [C1]; · iexact C1
    isplitl [OS1]; · iexact OS1
    iexact OR1
  isplitl [B2]; · iexact B2
  isplitl [S2]; · iexact S2
  isplitl [R2]; · iexact R2
  isplitl [C2]; · iexact C2
  isplitl [OS2]; · iexact OS2
  iexact OR2

theorem sort (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c : sProp 𝕄)
    ⊢ iprop((unscopedBufs c (fun b => m ((c : Thread nD τ).loc b)) ∗ owes (c : Thread nD τ) (O₀ c) ∅ ∗ Pipeline.launchCred O₀ c) ∗ unscopedSems0 c ∗ G c) := by
  iintro ⟨Hu, Hs, HO, HC, -, HG⟩
  isplitl [Hu HO HC]
  · isplitl [Hu]; · iexact Hu
    isplitl [HO]; · iexact HO
    iexact HC
  isplitl [Hs]; · iexact Hs
  iexact HG

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (held (U0 m) (ring m)) : sProp 𝕄) := by
  have hsplit : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c) : sProp 𝕄)
      ⊢ iprop((bigSep Finset.univ fun c : Dev nD => iprop(unscopedBufs c (fun b => m ((c : Thread nD τ).loc b)) ∗ owes (c : Thread nD τ) (O₀ c) ∅ ∗ Pipeline.launchCred O₀ c))
        ∗ (bigSep Finset.univ fun c : Dev nD => unscopedSems0 c) ∗ bigSep Finset.univ G) := by
    rw [← bigSep_sep', ← bigSep_sep']
    exact bigSep_mono fun c _ => sort m ρ c
  have hjoin : iprop((bigSep Finset.univ fun c : Dev nD => iprop(unscopedBufs c (fun b => m ((c : Thread nD τ).loc b)) ∗ owes (c : Thread nD τ) (O₀ c) ∅ ∗ Pipeline.launchCred O₀ c))
      ∗ (bigSep Finset.univ fun c : Dev nD => atPos ER (barCell c) 0 ∅ 0) ∗ bigSep Finset.univ fun c : Dev nD => bigSep Finset.univ fun k : Fin 3 => dealt (F := F) c k : sProp 𝕄)
      ⊢ bigSep Finset.univ fun c : Dev nD => iprop((unscopedBufs c (fun b => m ((c : Thread nD τ).loc b)) ∗ owes (c : Thread nD τ) (O₀ c) ∅ ∗ Pipeline.launchCred O₀ c)
        ∗ atPos ER (barCell c) 0 ∅ 0 ∗ bigSep Finset.univ fun k : Fin 3 => dealt (F := F) c k) := by
    rw [← bigSep_sep', ← bigSep_sep']
  iintro ⟨H, -⟩
  ihave H := hsplit $$ H
  icases H with ⟨Hr, Hs⟩
  imod (set_up m) $$ Hs with ⟨HK, HA, HD⟩
  imodintro
  iapply (bigSep_with (R := known m) fun c _ => first m c)
  isplitl [HK]; · iexact HK
  iapply hjoin
  isplitl [Hr]; · iexact Hr
  isplitl [HA]; · iexact HA
  iexact HD

/-! ## The run -/

/-- The host's operations between the calls, on device `c`. -/
def hostSeg (c : Dev nD) : Pipeline.HostSeg (Name := ℕ) (U := UU) (pcfgs (F := F)) defs₀ 𝒱₀ L lv :=
  Pipeline.HostSeg.ofOps _ _ _ _ _ (Pipeline.ucRefs τ sig) (hostOps2 c)
    (fun op h => Pipeline.sub_ucRefs op ((List.forall_iff_forall_mem.mp (hostOps2_sub c)) op h))
    (fun op h => (List.forall_iff_forall_mem.mp (hostOps2_fresh c)) op h) (U2 m)
    fun d => iprop((∃ W, owes (d : Thread nD τ) (O₀ d) W) ∗ ring m d)

def items (c : Dev nD) : List (Pipeline.PerCore.RDat.Seg (pcfgs (F := F)) aP (rdatsP m) () defs₀ 𝒱₀ L lv) :=
  [.region (region0 m (ring m)), .region (region1 m (ring m)), .host (hostSeg m c), .region (region2 m)]

/-- What is read off at the end. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ Rl2 (U3 m) c 3 (s.mem ((c : Thread nD τ).loc main_v8))
  ∧ s.sem (barCell c) = 0

theorem ends (c : Dev nD) (s' : Phys nD τ sig (Elt F)) : iprop(fin m c ∗ SI s') ⊢ |={Set.univ}=> iprop(⌜Ends m c s'.mem⌝ ∗ SI s' : sProp 𝕄) := by
  unfold fin args01
  iintro ⟨⟨%f, %hf, ⟨H0, H1⟩, H2, H3, H8, Hb⟩, HSI⟩
  icombine HSI H0 gives %h0
  icombine HSI H1 gives %h1
  icombine HSI H2 gives %h2
  icombine HSI H3 gives %h3
  icombine HSI H8 gives %h8
  icombine HSI Hb gives %hb
  imodintro
  isplitr
  · ipureintro
    refine ⟨⟨Buf.eq_of_forall_mem_univ h0, Buf.eq_of_forall_mem_univ h1, Buf.eq_of_forall_mem_univ h2, Buf.eq_of_forall_mem_univ h3⟩, ?_, by simpa using hb⟩
    rw [Buf.eq_of_forall_mem_univ h8]
    exact hf
  iexact HSI

theorem host_in (c : Dev nD) : (held (U2 m) (ring m) c : sProp 𝕄) ⊢ iprop(StableHlo.held (c : Thread nD τ) (Pipeline.ucRefs τ sig) (U2 m c) ∗ (∃ W, owes (c : Thread nD τ) (O₀ c) W) ∗ ring m c) := by
  unfold held
  exact sep_mono_left (Entails.of_eq (Pipeline.unscopedBufs_held c (U2 m c)))
theorem host_out (c : Dev nD) : iprop(StableHlo.held (c : Thread nD τ) (Pipeline.ucRefs τ sig) (StableHlo.after (hostOps2 c) (U2 m c)) ∗ (∃ W, owes (c : Thread nD τ) (O₀ c) W) ∗ ring m c) ⊢ (held (U3 m) (ring m) c : sProp 𝕄) := by
  unfold held
  exact sep_mono_left (Entails.of_eq (Pipeline.unscopedBufs_held c (U3 m c)).symm)

set_option backward.isDefEq.respectTransparency.types false in
/-- The run: at any float values, from any memory with zero counters, the program ends, with its arguments as they were, its result as
    the relation says, and every semaphore at zero. -/
theorem run_main : θ_run defs (onTc (τ := τ) (main (F := F))) ⟨m, fun _ => 0, ρ⟩ (fun r => (∀ c : Dev nD, Ends m c r.2) ∧ r.2.sem = fun _ => 0) :=
  Pipeline.PerCore.RDat.θ_run_regions_kit_sems (pcfgs (F := F)) aP (rdatsP m) () phinj EP defs₀ 𝒱₀ L lv m ρ main (items m)
    (fun c Q => by
      rewrite [main_chain c, Pipeline.PerCore.RDat.Seg.run_eq_chain,
        show (items m c).map Pipeline.PerCore.RDat.Seg.prog = [Prog.lift (.customCall (Pipeline.entry 0) ()), Prog.lift (.customCall (Pipeline.entry 1) ()), StableHlo.seq (hostOps2 c), Prog.lift (.customCall (Pipeline.entry 2) ())] from rfl]
      exact .rfl)
    (fun c => by simp only [items, Pipeline.PerCore.RDat.Seg.pipes_host, Pipeline.PerCore.RDat.Seg.pipes_region, Pipeline.PerCore.RDat.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply G_intro
      iexact HX)
    (T₀ := held (U0 m) (ring m)) (Tₙ := fin m)
    (hch := fun c => ⟨.rfl, .rfl, host_in m c, host_out m c, .rfl⟩)
    (hinit := init m ρ)
    (QY := Ends m)
    (hfin := ends m)
    (hQ := fun s h hs => ⟨h, sem_eq_zero hs fun c sm hsm => by
      obtain rfl : sm = .reg barS := by revert sm; decide
      exact (h c).2.2⟩)

end Cert.KernelIdealProof

end
-- ==== Proof.RefValue.lean ====
/-
  The reference's result as one function of its arguments: the program has one call, over whole arrays, at one point; what that point stores
  is the product, scaled and cut off below at zero, and it is read here at an index.
-/
module

public import proofs.«01_k».proof.Proof.Gen.ReferenceIdeal.Value
public import Idealize.ShloMosaic.Lib.Pointwise

@[expose] public section

noncomputable section

namespace Cert.ReferenceIdealProof

open Cert.ReferenceIdeal Cert.ReferenceIdeal.Gen Cert.ReferenceIdeal.Value
open Idealize.ShloMosaic Idealize.ShloMosaic.TcCoe Idealize.SL.Sem

variable {F : FTy → Type} [FloatOps F]

/-! ## What the one point stores -/

/-- The one word of a scale. -/
def only : S1.Idx := fun a => match a with | ⟨0, _⟩ => ⟨0, Nat.one_pos⟩

theorem idx_only (i : S1.Idx) : i = only := funext fun a => by
  match a with
  | ⟨0, _⟩ => exact Fin.ext (Nat.lt_one_iff.mp (i 0).isLt)

theorem origin2 : (![0, 0] : Fin 2 → ℕ) = fun _ => 0 := funext fun a => by fin_cases a <;> rfl

/-- The result as a function of the four arguments. -/
def scaled (x : Vec F S4096x4096 .fp8e4m3) (w : Vec F S4096x2048 .fp8e5m2) (sx sw : Vec F S1 .f32) : Vec F S4096x2048 .f32 :=
  k0_pay1 x w (sx only) (sw only)

theorem stored_eq (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (sx sw : Vec F S1 .f32) :
    out0_A_4 c a0 h0 a1 h1 a2 h2 a3 h3 a4 h4 x w sx sw = scaled x w sx sw := by
  unfold out0_A_4
  refine (View.read_writes_junk_eq_canon _ _).trans ?_
  show View.canon ([⟨Rect.unit ![0, 0] S4096x2048.size inb_S4096x2048_S4096x2048_0_0,
      k0_pay1 (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] : List (View.Piece (Elt F) S4096x2048 .f32)) = _
  rw [View.canon_unit_zero origin2]
  simp only [View.readAt_eq_ld, h0.read_unread, h1.read_unread, h2.read_unread, h3.read_unread]
  rw [View.ld_unit_zero origin2, View.ld_unit_zero origin2]
  exact congrArg₂ (k0_pay1 x w) (congrArg sx (idx_only _)) (congrArg sw (idx_only _))

/-! ## The result after the run -/

variable (m : (ℓ : Loc nD τ sig) → Buf (Elt F) ℓ) (ρ : Dev nD → PrngReg)

/-- Each window is its whole array, so it reads an array as it is. -/
theorem whole0 (c : Dev nD) (t : Fin cfg0.N) : iblk m c 0 t = m ((c : Thread nD τ).loc main_arg0) := by
  refine Eq.trans (funext fun j => congrArg (V m c main_arg0) (funext fun a => Fin.ext ?_)) (V_main_arg0 m c)
  show 0 * S4096x4096.size a + 1 * (j a).val = (j a).val
  omega

theorem whole1 (c : Dev nD) (t : Fin cfg0.N) : iblk m c 1 t = m ((c : Thread nD τ).loc main_arg1) := by
  refine Eq.trans (funext fun j => congrArg (V m c main_arg1) (funext fun a => Fin.ext ?_)) (V_main_arg1 m c)
  show 0 * S4096x2048.size a + 1 * (j a).val = (j a).val
  omega

theorem whole2 (c : Dev nD) (t : Fin cfg0.N) : iblk m c 2 t = m ((c : Thread nD τ).loc main_arg2) := by
  refine Eq.trans (funext fun j => congrArg (V m c main_arg2) (funext fun a => Fin.ext ?_)) (V_main_arg2 m c)
  show 0 * S1.size a + 1 * (j a).val = (j a).val
  omega

theorem whole3 (c : Dev nD) (t : Fin cfg0.N) : iblk m c 3 t = m ((c : Thread nD τ).loc main_arg3) := by
  refine Eq.trans (funext fun j => congrArg (V m c main_arg3) (funext fun a => Fin.ext ?_)) (V_main_arg3 m c)
  show 0 * S1.size a + 1 * (j a).val = (j a).val
  omega

/-- The one point. -/
def pt : Fin cfg0.N := ⟨0, by decide⟩

theorem final (c : Dev nD) : (dats m 0 c).arrAt 4 cfg0.N
    = scaled (m ((c : Thread nD τ).loc main_arg0)) (m ((c : Thread nD τ).loc main_arg1)) (m ((c : Thread nD τ).loc main_arg2)) (m ((c : Thread nD τ).loc main_arg3)) := by
  have h := blocks4 m c pt (flush0_4 pt)
  rw [flushed4_A, stored_eq, whole0, whole1, whole2, whole3] at h
  refine Eq.trans (funext fun j => congrArg ((dats m 0 c).arrAt 4 cfg0.N) (funext fun a => Fin.ext ?_)) h
  show (j a).val = 0 * S4096x2048.size a + 1 * (j a).val
  omega

/-! ## The product at an index -/

/-- One element of the result over the reals: the row by the column, by the two scales, at least zero. -/
theorem scaled_apply (x : Vec Ideal S4096x4096 .fp8e4m3) (w : Vec Ideal S4096x2048 .fp8e5m2) (sx sw : Vec Ideal S1 .f32) (j : S4096x2048.Idx) :
    scaled x w sx sw j = max ((∑ k : Fin 4096, x (ix2 (j 0) k) * w (ix2 k (j 1))) * (sx only * sw only)) (0 : EReal) := by
  pointwise [scaled, k0_pay1]

end Cert.ReferenceIdealProof

end
-- ==== Proof.Value.lean ====
/-
  The value of the result over the reals: each device's rows of each peer are the peer's rows of `x` by the device's columns of the weight,
  by the two scales, at least zero; so the devices hold the column blocks of what the reference computes from the whole arrays.
-/
module

public import proofs.«01_k».proof.Proof.Launch
public import proofs.«01_k».proof.Proof.RefValue

@[expose] public section

noncomputable section

namespace Cert.KernelIdealProof

open Cert.KernelIdeal hiding ix2
open Cert.KernelIdeal.Gen

open Idealize.ShloMosaic
open Idealize.ShloMosaic.TcCoe
open Cert.ReferenceIdealProof (only idx_only scaled scaled_apply)

/-! ## What a block of the product holds -/

/-- One element: a row by a column, by the two scales, at least zero. -/
theorem pay3_apply (sx sw : Elt Ideal .f32) (x : Vec Ideal S1024x4096 .fp8e4m3) (w : Vec Ideal S4096x512 .fp8e5m2) (j : S1024x512.Idx) :
    k2_pay3 sx sw x w j = max ((∑ k : Fin 4096, x (ix2 (j 0) k) * w (ix2 k (j 1))) * (sx * sw)) (0 : EReal) := by
  pointwise [k2_pay3]

/-- Narrowing a block for the exchange and widening it on receipt changes nothing over the reals. -/
theorem pay5_pay4 (sx sw : Elt Ideal .f32) (x : Vec Ideal S1024x4096 .fp8e4m3) (w : Vec Ideal S4096x512 .fp8e5m2) : k2_pay5 (k2_pay4 sx sw x w) = k2_pay3 sx sw x w := by
  funext j
  pointwise [k2_pay5, k2_pay4]

theorem pay2_eq_pay5 (v : Vec Ideal S1x1024x512 .bf16) : k2_pay2 v = k2_pay5 v := rfl
theorem pay1_eq_pay5 (v : Vec Ideal S1x1024x512 .bf16) : k2_pay1 v = k2_pay5 v := rfl

/-! ## What the windows read -/

section Windows

variable {F : FTy → Type} [FloatOps F] (V : Dev nD → Valuation τ sig (Elt F))

theorem blk0_eq (c : Dev nD) (t : Fin grid2.N) : blkOf V c 0 t = V c main_v1 := by
  refine funext fun j => congrArg (V c main_v1) (funext fun a => Fin.ext ?_)
  match a with
  | ⟨0, _⟩ => show 0 * 1024 + 1 * (j 0).val = (j 0).val; omega
  | ⟨1, _⟩ => show 0 * 4096 + 1 * (j 1).val = (j 1).val; omega

/-- The column of the weight that stands at column `n` of column block `b`. -/
def col (b : Fin 4) (n : Fin 512) : Fin 2048 := ⟨b.val * 512 + n.val, by omega⟩

theorem blk1_eq (c b : Dev nD) (t : Fin grid2.N) (hb : (c.val + 1 + (grid2.coords t 0).val) % 4 = b.val) (k : Fin 4096) (n : Fin 512) :
    blkOf V c 1 t (ix2 k n) = V c main_v2 (ix2 k (col b n)) := by
  have hc := colOf_eq c (grid2.coords t)
  rw [hb] at hc
  refine congrArg (V c main_v2) (funext fun a => Fin.ext ?_)
  match a with
  | ⟨0, _⟩ => show colOf c (grid2.coords t) 0 * 4096 + 1 * k.val = k.val; rw [hc]; show 0 * 4096 + 1 * k.val = k.val; omega
  | ⟨1, _⟩ => show colOf c (grid2.coords t) 1 * 512 + 1 * n.val = b.val * 512 + n.val; rw [hc]; show b.val * 512 + 1 * n.val = b.val * 512 + n.val; omega

theorem scal2_eq (c : Dev nD) (t : Fin grid2.N) : scal (blkOf V c 2 t) = (V c main_arg2 : S1.Idx → Elt F .f32) only :=
  congrArg (V c main_arg2 : S1.Idx → Elt F .f32) (idx_only _)

theorem scal3_eq (c : Dev nD) (t : Fin grid2.N) : scal (blkOf V c 3 t) = (V c main_arg3 : S1.Idx → Elt F .f32) only :=
  congrArg (V c main_arg3 : S1.Idx → Elt F .f32) (idx_only _)

end Windows

/-! ## What the devices compute -/

section Blocks

variable (V : Dev nD → Valuation τ sig (Elt Ideal))

/-- Rows `x` by column block `b` of the weight, by the two scales, at least zero. -/
def entry (x : S1024x4096.Idx → EReal) (w : S4096x2048.Idx → EReal) (sx sw : S1.Idx → EReal) (b : Fin 4) (j : S1024x512.Idx) : EReal :=
  max ((∑ k : Fin 4096, x (ix2 (j 0) k) * w (ix2 k (col b (j 1)))) * (sx only * sw only)) 0

theorem pay3_entry (x : S1024x4096.Idx → EReal) (w : S4096x2048.Idx → EReal) (wb : S4096x512.Idx → EReal) (sx sw : S1.Idx → EReal) (b : Fin 4)
    (hb : ∀ (k : Fin 4096) (n : Fin 512), wb (ix2 k n) = w (ix2 k (col b n))) : k2_pay3 (F := Ideal) (sx only) (sw only) x wb = entry x w sx sw b := by
  funext j
  refine (pay3_apply _ _ _ _ j).trans ?_
  exact congrArg (fun s : EReal => max (s * (sx only * sw only)) 0) (Finset.sum_congr rfl fun k _ => congrArg (fun e : EReal => x (ix2 (j 0) k) * e) (hb k (j 1)))

/-- Device `d`'s rows of `x` by column block `b`. -/
def block (d b : Dev nD) : S1024x512.Idx → EReal := entry (V d main_v1) (V d main_v2) (V d main_arg2) (V d main_arg3) b

theorem prod_eq (d b : Dev nD) (t : Fin grid2.N) (hb : (d.val + 1 + (grid2.coords t 0).val) % 4 = b.val) : prodOf V d t = block V d b := by
  unfold prodOf
  rw [scal2_eq, scal3_eq, blk0_eq]
  exact pay3_entry _ _ _ _ _ b (blk1_eq V d b t hb)

theorem coord_tk : ∀ k : Fin 3, (grid2.coords (tk k) 0).val = k.val := by decide +kernel
theorem coord_last : (grid2.coords t2_3 0).val = 3 := by decide +kernel

theorem col_bwd (c : Dev nD) (k : Fin 3) : ((bwd c k).val + 1 + k.val) % 4 = c.val := by revert c k; decide
theorem col_last (c : Dev nD) : (c.val + 1 + 3) % 4 = c.val := by revert c; decide

/-- What device `c` receives of the peer `k + 1` places back. -/
theorem received_eq (c : Dev nD) (k : Fin 3) : k2_pay5 (sentOf V (bwd c k) k) = block V (bwd c k) c :=
  (pay5_pay4 _ _ _ _).trans (prod_eq V (bwd c k) c (tk k) (by rw [coord_tk]; exact col_bwd c k))

theorem peer_cases (c b : Dev nD) : b = c ∨ b = bwd c 0 ∨ b = bwd c 1 ∨ b = bwd c 2 := by revert c b; decide

/-- After the last point, the rows of the result that belong to device `b` are that device's block. -/
theorem rows_eq (c b : Dev nD) (X : S4096x512.Idx → Elt Ideal .f32) (h : Rl2 V c 3 X) : rowsOf b X = block V b c := by
  obtain ⟨h3, h0, h1, h2⟩ := h
  rcases peer_cases c b with rfl | rfl | rfl | rfl
  · exact h3.trans (prod_eq V _ _ t2_3 (by rw [coord_last]; exact col_last _))
  · exact h0.trans (received_eq V c 0)
  · exact h1.trans ((pay2_eq_pay5 _).trans (received_eq V c 1))
  · exact h2.trans ((pay1_eq_pay5 _).trans (received_eq V c 2))

end Blocks

/-! ## The devices' results are the blocks of the reference's -/

/-- The row block and the row within it of a row of the result. -/
def rowBlk (i : S4096x512.Idx) : Fin 4 := ⟨(i 0).val / 1024, by have h : (i 0).val < 4096 := (i 0).isLt; omega⟩
def within (i : S4096x512.Idx) : S1024x512.Idx := ix2 (⟨(i 0).val % 1024, Nat.mod_lt _ (by decide)⟩ : Fin 1024) (i 1 : Fin 512)

theorem row_split {α : Type} (X : S4096x512.Idx → α) (i : S4096x512.Idx) : X i = rowsOf (rowBlk i) X (within i) := by
  refine congrArg X (funext fun a => Fin.ext ?_)
  match a with
  | ⟨0, _⟩ => show (i 0).val = 1024 * ((i 0).val / 1024) + 1 * ((i 0).val % 1024); omega
  | ⟨1, _⟩ => show (i 1).val = 0 + 1 * (i 1).val; omega

theorem result_eq (m : (ℓ : Loc nD τ sig) → Buf (Elt Ideal) ℓ)
    (x : Cert.ReferenceIdeal.S4096x4096.Idx → EReal) (w : S4096x2048.Idx → EReal) (sx sw : S1.Idx → EReal)
    (hx : ∀ d : Dev nD, (m (d, main_arg0) : S1024x4096.Idx → EReal) = Layout.block ⟨2, ![1024, 4096]⟩ ⟨2, ![4096, 4096]⟩ 0 4 d x)
    (hw : ∀ d : Dev nD, (m (d, main_arg1) : S4096x2048.Idx → EReal) = w)
    (hsx : ∀ d : Dev nD, (m (d, main_arg2) : S1.Idx → EReal) = sx) (hsw : ∀ d : Dev nD, (m (d, main_arg3) : S1.Idx → EReal) = sw)
    (c : Dev nD) (X : S4096x512.Idx → EReal) (h : Rl2 (U3 m) c 3 X) :
    X = Layout.block ⟨2, ![4096, 512]⟩ ⟨2, ![4096, 2048]⟩ 1 4 c (scaled (F := Ideal) x w sx sw) := by
  funext i
  rw [row_split X i, rows_eq (U3 m) c (rowBlk i) X h, Layout.block_apply, scaled_apply]
  unfold block entry
  rw [U3_v1, U3_v2, U3_arg m _ main_arg2 (by decide) (by decide) (by decide), U3_arg m _ main_arg3 (by decide) (by decide) (by decide), hx, hw, hsx, hsw]
  refine congrArg (fun s : EReal => max (s * (sx only * sw only)) 0) (Finset.sum_congr rfl fun k _ => ?_)
  refine congrArg₂ (fun a b : EReal => a * b) (congrArg x (funext fun a => Fin.ext ?_)) (congrArg w (funext fun a => Fin.ext ?_))
  · match a with
    | ⟨0, _⟩ => show (i 0).val / 1024 * 1024 + (i 0).val % 1024 = (i 0).val; omega
    | ⟨1, _⟩ => rfl
  · match a with
    | ⟨0, _⟩ => rfl
    | ⟨1, _⟩ => rfl

end Cert.KernelIdealProof

end
-- ==== Proof.Frames.lean ====
/-
  The frame of the kernel on the machine's own numbers. The two kernel programs have the same text, so the claim about the one is the same
  proposition about the other, and the run of `KernelIdeal`, made over any float values, proves it.
-/
module

public import proofs.«01_k».proof.Defs
public import proofs.«01_k».proof.Proof.Gen.Kernel
public import proofs.«01_k».proof.Proof.Value

@[expose] public section

noncomputable section

namespace Cert.KernelIdealProof
open Idealize.ShloMosaic Idealize.SL.Sem

/-- The claim `quiescent_Kernel`, said of the program `KernelIdeal` at the machine's own numbers. -/
def framed : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem framed_holds : framed := fun m ρ _ =>
  (θ_run Cert.KernelIdeal.defs _ _).mono (fun _ h => ⟨fun c => (h.1 c).1, h.2⟩) (Cert.KernelIdealProof.run_main (F := Bits) m ρ)

/-- The two programs are one by unfolding. -/
theorem framed_eq : @Cert.quiescent_Kernel Cert.Kernel.Gen.facts = framed := by sl_kernel_rfl

end Cert.KernelIdealProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.Frames
public import Idealize.ShloMosaic.Adequacy
public import Idealize.ShloMosaic.Init

@[expose] public section

noncomputable section

namespace Cert.Proof

open Idealize.ShloMosaic Idealize.SL.Sem Cert.Kernel

/-- The kernel on the machine's own numbers returns its arguments unchanged and every counter at zero. -/
theorem frame_kernel : @Cert.quiescent_Kernel Cert.Kernel.Gen.facts := Cert.KernelIdealProof.framed_eq.mpr Cert.KernelIdealProof.framed_holds

/-- The same over the reals. -/
theorem frame_ideal : @Cert.quiescent_KernelIdeal Cert.KernelIdeal.Gen.facts := fun m ρ _ =>
  (θ_run Cert.KernelIdeal.defs _ _).mono (fun _ h => ⟨fun c => (h.1 c).1, h.2⟩) (Cert.KernelIdealProof.run_main (F := Ideal) m ρ)

/-- The kernel's results are the column blocks of the reference's result. -/
theorem algebraic : @Cert.algebraic_KernelIdeal_ReferenceIdeal Cert.KernelIdeal.Gen.facts Cert.ReferenceIdeal.Gen.facts := fun m g m' g' _ hin =>
  ⟨_, (θ_run Cert.KernelIdeal.defs _ _).mono
      (fun r h c => ⟨Cert.KernelIdealProof.result_eq m _ _ _ _ (fun d => (hin d).1) (fun d => (hin d).2.1) (fun d => (hin d).2.2.1) (fun d => (hin d).2.2.2) c _ (h.1 c).2.1,
        (h.1 c).1⟩)
      (Cert.KernelIdealProof.run_main (F := Ideal) m g),
    (θ_run Cert.ReferenceIdeal.defs _ _).mono
      (fun r h => ⟨(h 0).1.trans (Cert.ReferenceIdealProof.final m' 0), (h 0).2⟩)
      (Cert.ReferenceIdeal.Value.run_blocks (F := Ideal) m' g')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
